-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S2x3x128x256 : Shape := ⟨4, ![2, 3, 128, 256]⟩
abbrev S2x3 : Shape := ⟨2, ![2, 3]⟩
abbrev S_ : Shape := ⟨0, ![]⟩
abbrev S128x256 : Shape := ⟨2, ![128, 256]⟩
abbrev S256x256 : Shape := ⟨2, ![256, 256]⟩
abbrev S1x1x128x256 : Shape := ⟨4, ![1, 1, 128, 256]⟩
abbrev S1x1 : Shape := ⟨2, ![1, 1]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S512x512, .bf16⟩
  | .local _ .vmem, ⟨0, _⟩ => ⟨S512x256, .bf16⟩
  | .local _ .vmem, ⟨1, _⟩ => ⟨S256x512, .bf16⟩
  | .local _ .vmem, ⟨2, _⟩ => ⟨S512x512, .bf16⟩
  | .local _ .vmem, ⟨3, _⟩ => ⟨S2x3x128x256, .bf16⟩
  | .local _ .vmem, ⟨4, _⟩ => ⟨S2x3x128x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.addi v2 c2_i32_28
  let c4_i32_29 : BitVec 32 := 4#32
  let c0_i32_30 : BitVec 32 := 0#32
  let v46 : BitVec 1 := Scalar.cmpi .eq c4_i32_29 c0_i32_30
  let c1_i32_31 : BitVec 32 := 1#32
  let v47 : BitVec 32 := Scalar.select v46 c1_i32_31 c4_i32_29
  let v48 : BitVec 32 := Scalar.remsi v45 v47
  let c0_i32_33 : BitVec 32 := 0#32
  let v50 : BitVec 1 := Scalar.cmpi .slt v48 c0_i32_33
  let c0_i32_34 : BitVec 32 := 0#32
  let v51 : BitVec 1 := Scalar.cmpi .slt v47 c0_i32_34
  let v52 : BitVec 1 := Scalar.xori v50 v51
  let c0_i32_32 : BitVec 32 := 0#32
  let v49 : BitVec 1 := Scalar.cmpi .ne v48 c0_i32_32
  let v53 : BitVec 1 := Scalar.andi v52 v49
  let v54 : BitVec 32 := Scalar.addi v48 v47
  let v55 : BitVec 32 := Scalar.select v53 v54 v48
  let c128_i32 : BitVec 32 := 128#32
  let v56 : BitVec 32 := Scalar.muli v55 c128_i32
  let v57 : Index := Scalar.indexCast v56
  let c0_35 : Index := 0#32
  ![v57.toNat, 0]
def k0_dev4 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_67 : BitVec 32 := 2#32
  let v108 : BitVec 32 := Scalar.addi v2 c2_i32_67
  let c4_i32_68 : BitVec 32 := 4#32
  let c0_i32_69 : BitVec 32 := 0#32
  let v109 : BitVec 1 := Scalar.cmpi .eq c4_i32_68 c0_i32_69
  let c1_i32_70 : BitVec 32 := 1#32
  let v110 : BitVec 32 := Scalar.select v109 c1_i32_70 c4_i32_68
  let v111 : BitVec 32 := Scalar.remsi v108 v110
  let c0_i32_72 : BitVec 32 := 0#32
  let v113 : BitVec 1 := Scalar.cmpi .slt v111 c0_i32_72
  let c0_i32_73 : BitVec 32 := 0#32
  let v114 : BitVec 1 := Scalar.cmpi .slt v110 c0_i32_73
  let v115 : BitVec 1 := Scalar.xori v113 v114
  let c0_i32_71 : BitVec 32 := 0#32
  let v112 : BitVec 1 := Scalar.cmpi .ne v111 c0_i32_71
  let v116 : BitVec 1 := Scalar.andi v115 v112
  let v117 : BitVec 32 := Scalar.addi v111 v110
  let v118 : BitVec 32 := Scalar.select v116 v117 v111
  let c1_i32_82 : BitVec 32 := 1#32
  let v119 : BitVec 32 := Scalar.muli v118 c1_i32_82
  let v120 : BitVec 32 := Scalar.addi c0_i32_83 v119
  v120.toNat
def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_88 : BitVec 32 := 1#32
  let v129 : BitVec 32 := Scalar.addi v2 c1_i32_88
  let c4_i32_89 : BitVec 32 := 4#32
  let c0_i32_90 : BitVec 32 := 0#32
  let v130 : BitVec 1 := Scalar.cmpi .eq c4_i32_89 c0_i32_90
  let c1_i32_91 : BitVec 32 := 1#32
  let v131 : BitVec 32 := Scalar.select v130 c1_i32_91 c4_i32_89
  let v132 : BitVec 32 := Scalar.remsi v129 v131
  let c0_i32_93 : BitVec 32 := 0#32
  let v134 : BitVec 1 := Scalar.cmpi .slt v132 c0_i32_93
  let c0_i32_94 : BitVec 32 := 0#32
  let v135 : BitVec 1 := Scalar.cmpi .slt v131 c0_i32_94
  let v136 : BitVec 1 := Scalar.xori v134 v135
  let c0_i32_92 : BitVec 32 := 0#32
  let v133 : BitVec 1 := Scalar.cmpi .ne v132 c0_i32_92
  let v137 : BitVec 1 := Scalar.andi v136 v133
  let v138 : BitVec 32 := Scalar.addi v132 v131
  let v139 : BitVec 32 := Scalar.select v137 v138 v132
  let c1_i32_103 : BitVec 32 := 1#32
  let v140 : BitVec 32 := Scalar.muli v139 c1_i32_103
  let v141 : BitVec 32 := Scalar.addi c0_i32_104 v140
  v141.toNat
def k0_dev6 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_109 : BitVec 32 := 3#32
  let v150 : BitVec 32 := Scalar.addi v2 c3_i32_109
  let c4_i32_110 : BitVec 32 := 4#32
  let c0_i32_111 : BitVec 32 := 0#32
  let v151 : BitVec 1 := Scalar.cmpi .eq c4_i32_110 c0_i32_111
  let c1_i32_112 : BitVec 32 := 1#32
  let v152 : BitVec 32 := Scalar.select v151 c1_i32_112 c4_i32_110
  let v153 : BitVec 32 := Scalar.remsi v150 v152
  let c0_i32_114 : BitVec 32 := 0#32
  let v155 : BitVec 1 := Scalar.cmpi .slt v153 c0_i32_114
  let c0_i32_115 : BitVec 32 := 0#32
  let v156 : BitVec 1 := Scalar.cmpi .slt v152 c0_i32_115
  let v157 : BitVec 1 := Scalar.xori v155 v156
  let c0_i32_113 : BitVec 32 := 0#32
  let v154 : BitVec 1 := Scalar.cmpi .ne v153 c0_i32_113
  let v158 : BitVec 1 := Scalar.andi v157 v154
  let v159 : BitVec 32 := Scalar.addi v153 v152
  let v160 : BitVec 32 := Scalar.select v158 v159 v153
  let c1_i32_124 : BitVec 32 := 1#32
  let v161 : BitVec 32 := Scalar.muli v160 c1_i32_124
  let v162 : BitVec 32 := Scalar.addi c0_i32_125 v161
  v162.toNat
def k0_dev7 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_172 : BitVec 32 := 2#32
  let v234 : BitVec 32 := Scalar.addi v2 c2_i32_172
  let c4_i32_173 : BitVec 32 := 4#32
  let c0_i32_174 : BitVec 32 := 0#32
  let v235 : BitVec 1 := Scalar.cmpi .eq c4_i32_173 c0_i32_174
  let c1_i32_175 : BitVec 32 := 1#32
  let v236 : BitVec 32 := Scalar.select v235 c1_i32_175 c4_i32_173
  let v237 : BitVec 32 := Scalar.remsi v234 v236
  let c0_i32_177 : BitVec 32 := 0#32
  let v239 : BitVec 1 := Scalar.cmpi .slt v237 c0_i32_177
  let c0_i32_178 : BitVec 32 := 0#32
  let v240 : BitVec 1 := Scalar.cmpi .slt v236 c0_i32_178
  let v241 : BitVec 1 := Scalar.xori v239 v240
  let c0_i32_176 : BitVec 32 := 0#32
  let v238 : BitVec 1 := Scalar.cmpi .ne v237 c0_i32_176
  let v242 : BitVec 1 := Scalar.andi v241 v238
  let v243 : BitVec 32 := Scalar.addi v237 v236
  let v244 : BitVec 32 := Scalar.select v242 v243 v237
  let c1_i32_187 : BitVec 32 := 1#32
  let v245 : BitVec 32 := Scalar.muli v244 c1_i32_187
  let v246 : BitVec 32 := Scalar.addi c0_i32_188 v245
  v246.toNat
def k0_dev8 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_193 : BitVec 32 := 1#32
  let v255 : BitVec 32 := Scalar.addi v2 c1_i32_193
  let c4_i32_194 : BitVec 32 := 4#32
  let c0_i32_195 : BitVec 32 := 0#32
  let v256 : BitVec 1 := Scalar.cmpi .eq c4_i32_194 c0_i32_195
  let c1_i32_196 : BitVec 32 := 1#32
  let v257 : BitVec 32 := Scalar.select v256 c1_i32_196 c4_i32_194
  let v258 : BitVec 32 := Scalar.remsi v255 v257
  let c0_i32_198 : BitVec 32 := 0#32
  let v260 : BitVec 1 := Scalar.cmpi .slt v258 c0_i32_198
  let c0_i32_199 : BitVec 32 := 0#32
  let v261 : BitVec 1 := Scalar.cmpi .slt v257 c0_i32_199
  let v262 : BitVec 1 := Scalar.xori v260 v261
  let c0_i32_197 : BitVec 32 := 0#32
  let v259 : BitVec 1 := Scalar.cmpi .ne v258 c0_i32_197
  let v263 : BitVec 1 := Scalar.andi v262 v259
  let v264 : BitVec 32 := Scalar.addi v258 v257
  let v265 : BitVec 32 := Scalar.select v263 v264 v258
  let c1_i32_208 : BitVec 32 := 1#32
  let v266 : BitVec 32 := Scalar.muli v265 c1_i32_208
  let v267 : BitVec 32 := Scalar.addi c0_i32_209 v266
  v267.toNat
def k0_dev9 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_214 : BitVec 32 := 3#32
  let v276 : BitVec 32 := Scalar.addi v2 c3_i32_214
  let c4_i32_215 : BitVec 32 := 4#32
  let c0_i32_216 : BitVec 32 := 0#32
  let v277 : BitVec 1 := Scalar.cmpi .eq c4_i32_215 c0_i32_216
  let c1_i32_217 : BitVec 32 := 1#32
  let v278 : BitVec 32 := Scalar.select v277 c1_i32_217 c4_i32_215
  let v279 : BitVec 32 := Scalar.remsi v276 v278
  let c0_i32_219 : BitVec 32 := 0#32
  let v281 : BitVec 1 := Scalar.cmpi .slt v279 c0_i32_219
  let c0_i32_220 : BitVec 32 := 0#32
  let v282 : BitVec 1 := Scalar.cmpi .slt v278 c0_i32_220
  let v283 : BitVec 1 := Scalar.xori v281 v282
  let c0_i32_218 : BitVec 32 := 0#32
  let v280 : BitVec 1 := Scalar.cmpi .ne v279 c0_i32_218
  let v284 : BitVec 1 := Scalar.andi v283 v280
  let v285 : BitVec 32 := Scalar.addi v279 v278
  let v286 : BitVec 32 := Scalar.select v284 v285 v279
  let c1_i32_229 : BitVec 32 := 1#32
  let v287 : BitVec 32 := Scalar.muli v286 c1_i32_229
  let v288 : BitVec 32 := Scalar.addi c0_i32_230 v287
  v288.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_235 : BitVec 32 := 128#32
  let v297 : BitVec 32 := Scalar.muli v2 c128_i32_235
  let v298 : Index := Scalar.indexCast v297
  let c0_236 : Index := 0#32
  ![v298.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_292 : BitVec 32 := 128#32
  let v340 : BitVec 32 := Scalar.muli v2 c128_i32_292
  let v341 : Index := Scalar.indexCast v340
  let c0_293 : Index := 0#32
  ![v341.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_302 : BitVec 32 := 128#32
  let v355 : BitVec 32 := Scalar.muli v2 c128_i32_302
  let c0_i32_309 : BitVec 32 := 0#32
  ![v355.toNat, 0]
def k0_dev10 (d0 : Dev nD) : Nat :=
  let c0_i32_308 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_294 : BitVec 32 := 2#32
  let v343 : BitVec 32 := Scalar.addi v2 c2_i32_294
  let c4_i32_295 : BitVec 32 := 4#32
  let c0_i32_296 : BitVec 32 := 0#32
  let v344 : BitVec 1 := Scalar.cmpi .eq c4_i32_295 c0_i32_296
  let c1_i32_297 : BitVec 32 := 1#32
  let v345 : BitVec 32 := Scalar.select v344 c1_i32_297 c4_i32_295
  let v346 : BitVec 32 := Scalar.remsi v343 v345
  let c0_i32_299 : BitVec 32 := 0#32
  let v348 : BitVec 1 := Scalar.cmpi .slt v346 c0_i32_299
  let c0_i32_300 : BitVec 32 := 0#32
  let v349 : BitVec 1 := Scalar.cmpi .slt v345 c0_i32_300
  let v350 : BitVec 1 := Scalar.xori v348 v349
  let c0_i32_298 : BitVec 32 := 0#32
  let v347 : BitVec 1 := Scalar.cmpi .ne v346 c0_i32_298
  let v351 : BitVec 1 := Scalar.andi v350 v347
  let v352 : BitVec 32 := Scalar.addi v346 v345
  let v353 : BitVec 32 := Scalar.select v351 v352 v346
  let c1_i32_307 : BitVec 32 := 1#32
  let v356 : BitVec 32 := Scalar.muli v353 c1_i32_307
  let v357 : BitVec 32 := Scalar.addi c0_i32_308 v356
  v357.toNat
def k0_dev11 (d0 : Dev nD) : Nat :=
  let c0_i32_325 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_311 : BitVec 32 := 1#32
  let v364 : BitVec 32 := Scalar.addi v2 c1_i32_311
  let c4_i32_312 : BitVec 32 := 4#32
  let c0_i32_313 : BitVec 32 := 0#32
  let v365 : BitVec 1 := Scalar.cmpi .eq c4_i32_312 c0_i32_313
  let c1_i32_314 : BitVec 32 := 1#32
  let v366 : BitVec 32 := Scalar.select v365 c1_i32_314 c4_i32_312
  let v367 : BitVec 32 := Scalar.remsi v364 v366
  let c0_i32_316 : BitVec 32 := 0#32
  let v369 : BitVec 1 := Scalar.cmpi .slt v367 c0_i32_316
  let c0_i32_317 : BitVec 32 := 0#32
  let v370 : BitVec 1 := Scalar.cmpi .slt v366 c0_i32_317
  let v371 : BitVec 1 := Scalar.xori v369 v370
  let c0_i32_315 : BitVec 32 := 0#32
  let v368 : BitVec 1 := Scalar.cmpi .ne v367 c0_i32_315
  let v372 : BitVec 1 := Scalar.andi v371 v368
  let v373 : BitVec 32 := Scalar.addi v367 v366
  let v374 : BitVec 32 := Scalar.select v372 v373 v367
  let c1_i32_324 : BitVec 32 := 1#32
  let v377 : BitVec 32 := Scalar.muli v374 c1_i32_324
  let v378 : BitVec 32 := Scalar.addi c0_i32_325 v377
  v378.toNat
def k0_dev12 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_328 : BitVec 32 := 3#32
  let v385 : BitVec 32 := Scalar.addi v2 c3_i32_328
  let c4_i32_329 : BitVec 32 := 4#32
  let c0_i32_330 : BitVec 32 := 0#32
  let v386 : BitVec 1 := Scalar.cmpi .eq c4_i32_329 c0_i32_330
  let c1_i32_331 : BitVec 32 := 1#32
  let v387 : BitVec 32 := Scalar.select v386 c1_i32_331 c4_i32_329
  let v388 : BitVec 32 := Scalar.remsi v385 v387
  let c0_i32_333 : BitVec 32 := 0#32
  let v390 : BitVec 1 := Scalar.cmpi .slt v388 c0_i32_333
  let c0_i32_334 : BitVec 32 := 0#32
  let v391 : BitVec 1 := Scalar.cmpi .slt v387 c0_i32_334
  let v392 : BitVec 1 := Scalar.xori v390 v391
  let c0_i32_332 : BitVec 32 := 0#32
  let v389 : BitVec 1 := Scalar.cmpi .ne v388 c0_i32_332
  let v393 : BitVec 1 := Scalar.andi v392 v389
  let v394 : BitVec 32 := Scalar.addi v388 v387
  let v395 : BitVec 32 := Scalar.select v393 v394 v388
  let c1_i32_341 : BitVec 32 := 1#32
  let v398 : BitVec 32 := Scalar.muli v395 c1_i32_341
  let v399 : BitVec 32 := Scalar.addi c0_i32_342 v398
  v399.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_399 : BitVec 32 := 128#32
  let v444 : BitVec 32 := Scalar.muli v2 c128_i32_399
  let v445 : Index := Scalar.indexCast v444
  let c256 : Index := 256#32
  ![v445.toNat, 256]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_408 : BitVec 32 := 128#32
  let v459 : BitVec 32 := Scalar.muli v2 c128_i32_408
  let c256_i32 : BitVec 32 := 256#32
  ![v459.toNat, 256]
def k0_dev13 (d0 : Dev nD) : Nat :=
  let c0_i32_414 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_400 : BitVec 32 := 2#32
  let v447 : BitVec 32 := Scalar.addi v2 c2_i32_400
  let c4_i32_401 : BitVec 32 := 4#32
  let c0_i32_402 : BitVec 32 := 0#32
  let v448 : BitVec 1 := Scalar.cmpi .eq c4_i32_401 c0_i32_402
  let c1_i32_403 : BitVec 32 := 1#32
  let v449 : BitVec 32 := Scalar.select v448 c1_i32_403 c4_i32_401
  let v450 : BitVec 32 := Scalar.remsi v447 v449
  let c0_i32_405 : BitVec 32 := 0#32
  let v452 : BitVec 1 := Scalar.cmpi .slt v450 c0_i32_405
  let c0_i32_406 : BitVec 32 := 0#32
  let v453 : BitVec 1 := Scalar.cmpi .slt v449 c0_i32_406
  let v454 : BitVec 1 := Scalar.xori v452 v453
  let c0_i32_404 : BitVec 32 := 0#32
  let v451 : BitVec 1 := Scalar.cmpi .ne v450 c0_i32_404
  let v455 : BitVec 1 := Scalar.andi v454 v451
  let v456 : BitVec 32 := Scalar.addi v450 v449
  let v457 : BitVec 32 := Scalar.select v455 v456 v450
  let c1_i32_413 : BitVec 32 := 1#32
  let v460 : BitVec 32 := Scalar.muli v457 c1_i32_413
  let v461 : BitVec 32 := Scalar.addi c0_i32_414 v460
  v461.toNat
def k0_dev14 (d0 : Dev nD) : Nat :=
  let c0_i32_430 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_416 : BitVec 32 := 1#32
  let v468 : BitVec 32 := Scalar.addi v2 c1_i32_416
  let c4_i32_417 : BitVec 32 := 4#32
  let c0_i32_418 : BitVec 32 := 0#32
  let v469 : BitVec 1 := Scalar.cmpi .eq c4_i32_417 c0_i32_418
  let c1_i32_419 : BitVec 32 := 1#32
  let v470 : BitVec 32 := Scalar.select v469 c1_i32_419 c4_i32_417
  let v471 : BitVec 32 := Scalar.remsi v468 v470
  let c0_i32_421 : BitVec 32 := 0#32
  let v473 : BitVec 1 := Scalar.cmpi .slt v471 c0_i32_421
  let c0_i32_422 : BitVec 32 := 0#32
  let v474 : BitVec 1 := Scalar.cmpi .slt v470 c0_i32_422
  let v475 : BitVec 1 := Scalar.xori v473 v474
  let c0_i32_420 : BitVec 32 := 0#32
  let v472 : BitVec 1 := Scalar.cmpi .ne v471 c0_i32_420
  let v476 : BitVec 1 := Scalar.andi v475 v472
  let v477 : BitVec 32 := Scalar.addi v471 v470
  let v478 : BitVec 32 := Scalar.select v476 v477 v471
  let c1_i32_429 : BitVec 32 := 1#32
  let v481 : BitVec 32 := Scalar.muli v478 c1_i32_429
  let v482 : BitVec 32 := Scalar.addi c0_i32_430 v481
  v482.toNat
def k0_dev15 (d0 : Dev nD) : Nat :=
  let c0_i32_447 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_433 : BitVec 32 := 3#32
  let v489 : BitVec 32 := Scalar.addi v2 c3_i32_433
  let c4_i32_434 : BitVec 32 := 4#32
  let c0_i32_435 : BitVec 32 := 0#32
  let v490 : BitVec 1 := Scalar.cmpi .eq c4_i32_434 c0_i32_435
  let c1_i32_436 : BitVec 32 := 1#32
  let v491 : BitVec 32 := Scalar.select v490 c1_i32_436 c4_i32_434
  let v492 : BitVec 32 := Scalar.remsi v489 v491
  let c0_i32_438 : BitVec 32 := 0#32
  let v494 : BitVec 1 := Scalar.cmpi .slt v492 c0_i32_438
  let c0_i32_439 : BitVec 32 := 0#32
  let v495 : BitVec 1 := Scalar.cmpi .slt v491 c0_i32_439
  let v496 : BitVec 1 := Scalar.xori v494 v495
  let c0_i32_437 : BitVec 32 := 0#32
  let v493 : BitVec 1 := Scalar.cmpi .ne v492 c0_i32_437
  let v497 : BitVec 1 := Scalar.andi v496 v493
  let v498 : BitVec 32 := Scalar.addi v492 v491
  let v499 : BitVec 32 := Scalar.select v497 v498 v492
  let c1_i32_446 : BitVec 32 := 1#32
  let v502 : BitVec 32 := Scalar.muli v499 c1_i32_446
  let v503 : BitVec 32 := Scalar.addi c0_i32_447 v502
  v503.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .hbm, ⟨2, _⟩ => ⟨S512x1024, .f32⟩
  | .hbm, ⟨3, _⟩ => ⟨S1024x512, .f32⟩
  | .hbm, ⟨4, _⟩ => ⟨S512x512, .f32⟩
  | .hbm, ⟨5, _⟩ => ⟨S512x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdeal.Sched.lean ====
/-
The protocol by which the four devices exchange blocks: who sends what to whom, on which semaphore, and what every
completed wait hands over. Device `c` forms its product with its own 256 rows of the second matrix. It keeps chunk `c`
of the rows and sends, for `j = 0, 1, 2`, chunk `c + j + 1` (in two column halves) to the device of that number. It
adds up the three pieces it receives for its own chunk, and sends the finished chunk to the three others.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Mesh

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duties of a cell: a barrier cell has one per other device, a transfer cell uses duty `0` alone. -/
abbrev Duty : Type := Fin 3
abbrev UX : Type := URounds (GSem nD τ sig) Duty
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## Devices -/

set_option backward.proofsInPublic true in
/-- The device `j + 1` places after `c`: where `c` sends its `j`-th piece. -/
def sh (c : Dev nD) (j : Fin 3) : Dev nD := ⟨(c.val + (j.val + 1)) % 4, Nat.mod_lt _ (by decide)⟩
set_option backward.proofsInPublic true in
/-- The device `j + 1` places before `c`: the one whose `j`-th piece `c` receives. -/
def us (c : Dev nD) (j : Fin 3) : Dev nD := ⟨(c.val + (3 - j.val)) % 4, Nat.mod_lt _ (by decide)⟩

theorem us_sh (c : Dev nD) (j : Fin 3) : us (sh c j) j = c := by revert c j; decide
theorem sh_us (c : Dev nD) (j : Fin 3) : sh (us c j) j = c := by revert c j; decide

theorem dev1_eq (c : Dev nD) : (⟨k0_dev1 c, k0_dev1_lt c⟩ : Dev nD) = sh c 0 := by revert c; decide +kernel
theorem dev2_eq (c : Dev nD) : (⟨k0_dev2 c, k0_dev2_lt c⟩ : Dev nD) = sh c 1 := by revert c; decide +kernel
theorem dev3_eq (c : Dev nD) : (⟨k0_dev3 c, k0_dev3_lt c⟩ : Dev nD) = sh c 2 := by revert c; decide +kernel
theorem dev4_eq (c : Dev nD) : (⟨k0_dev4 c, k0_dev4_lt c⟩ : Dev nD) = sh c 1 := by revert c; decide +kernel
theorem dev5_eq (c : Dev nD) : (⟨k0_dev5 c, k0_dev5_lt c⟩ : Dev nD) = sh c 0 := by revert c; decide +kernel
theorem dev6_eq (c : Dev nD) : (⟨k0_dev6 c, k0_dev6_lt c⟩ : Dev nD) = sh c 2 := by revert c; decide +kernel
theorem dev7_eq (c : Dev nD) : (⟨k0_dev7 c, k0_dev7_lt c⟩ : Dev nD) = sh c 1 := by revert c; decide +kernel
theorem dev8_eq (c : Dev nD) : (⟨k0_dev8 c, k0_dev8_lt c⟩ : Dev nD) = sh c 0 := by revert c; decide +kernel
theorem dev9_eq (c : Dev nD) : (⟨k0_dev9 c, k0_dev9_lt c⟩ : Dev nD) = sh c 2 := by revert c; decide +kernel
theorem dev10_eq (c : Dev nD) : (⟨k0_dev10 c, k0_dev10_lt c⟩ : Dev nD) = sh c 1 := by revert c; decide +kernel
theorem dev11_eq (c : Dev nD) : (⟨k0_dev11 c, k0_dev11_lt c⟩ : Dev nD) = sh c 0 := by revert c; decide +kernel
theorem dev12_eq (c : Dev nD) : (⟨k0_dev12 c, k0_dev12_lt c⟩ : Dev nD) = sh c 2 := by revert c; decide +kernel
theorem dev13_eq (c : Dev nD) : (⟨k0_dev13 c, k0_dev13_lt c⟩ : Dev nD) = sh c 1 := by revert c; decide +kernel
theorem dev14_eq (c : Dev nD) : (⟨k0_dev14 c, k0_dev14_lt c⟩ : Dev nD) = sh c 0 := by revert c; decide +kernel
theorem dev15_eq (c : Dev nD) : (⟨k0_dev15 c, k0_dev15_lt c⟩ : Dev nD) = sh c 2 := by revert c; decide +kernel

/-! ## Buffers and their parts -/

abbrev aM : Memref sig .tc .vmem S512x256 .bf16 := Memref.whole cc0_stg0_0
abbrev bM : Memref sig .tc .vmem S256x512 .bf16 := Memref.whole cc0_stg1_0
abbrev oM : Memref sig .tc .vmem S512x512 .bf16 := Memref.whole cc0_stg2_0
/-- The buffer a device stages its outgoing pieces in, -/
abbrev stM : Memref sig .tc .vmem S2x3x128x256 .bf16 := Memref.whole cc0_scratch0
/-- and the one its incoming pieces land in. -/
abbrev rcM : Memref sig .tc .vmem S2x3x128x256 .bf16 := Memref.whole cc0_scratch1

theorem slot_inb (h : Fin 2) (j : Fin 3) : ∀ a, (![h.val, j.val, 0, 0] : Fin 4 → ℕ) a + S1x1x128x256.size a ≤ S2x3x128x256.size a := by
  revert h j; decide

/-- Slot `(h, j)` of a staging or landing buffer: column half `h` of piece `j`. -/
abbrev slotR (h : Fin 2) (j : Fin 3) : Rect S2x3x128x256 := Rect.unit (s := S2x3x128x256) ![h.val, j.val, 0, 0] S1x1x128x256.size (slot_inb h j)
abbrev slotM (M : Memref sig .tc .vmem S2x3x128x256 .bf16) (h : Fin 2) (j : Fin 3) : Memref sig .tc .vmem S1x1x128x256 .bf16 :=
  M.slice (slotR h j) (fun _ => rfl)
/-- The same slot as a matrix: what a transfer is addressed by. -/
abbrev slotQ (M : Memref sig .tc .vmem S2x3x128x256 .bf16) (h : Fin 2) (j : Fin 3) : Memref sig .tc .vmem S128x256 .bf16 :=
  (slotM M h j).squeeze S128x256 squeezes_S1x1x128x256_S128x256

/-- Where column half `h` of row chunk `d` of the result begins. -/
def outOff (h : Fin 2) (d : Dev nD) : Fin 2 → ℕ := match h with | 0 => k0_off4 d | 1 => k0_off6 d
theorem outOff_inb (h : Fin 2) (d : Dev nD) : ∀ a, (outOff h d) a + S128x256.size a ≤ S512x512.size a :=
  match h with | 0 => k0_off4_inb d | 1 => k0_off6_inb d
theorem outOff_eq (h : Fin 2) (d : Dev nD) : outOff h d = ![128 * d.val, 256 * h.val] :=
  match h with | 0 => k0_off4_eq d | 1 => k0_off6_eq d

abbrev outR (h : Fin 2) (d : Dev nD) : Rect S512x512 := Rect.unit (s := S512x512) (outOff h d) S128x256.size (outOff_inb h d)
/-- Column half `h` of row chunk `d` of a device's result. -/
abbrev outM (h : Fin 2) (d : Dev nD) : Memref sig .tc .vmem S128x256 .bf16 := oM.slice (outR h d) (fun _ => rfl)

/-! ## Semaphores and cells -/

/-- The semaphore all devices meet at first. -/
abbrev barS : Sem sig := (SemArray.scalar (sig.barrier 0 rfl) : Sems sig S_).sem

/-- A transfer semaphore is named by its array — pieces sent `0`, pieces received `1`, chunks sent `2`, chunks received
    `3` — and its two coordinates in it. -/
abbrev DIx : Type := Fin 4 × Fin 2 × Fin 3
set_option backward.proofsInPublic true in
def dsem (x : DIx) : DmaSem sig := ⟨3 + 6 * x.1.val + 3 * x.2.1.val + x.2.2.val, by
  obtain ⟨k, h, j⟩ := x; have := k.isLt; have := h.isLt; have := j.isLt
  show 3 + 6 * k.val + 3 * h.val + j.val < 27; omega⟩
/-- The name of the transfer semaphore of that number. -/
def ixOf (q : DmaSem sig) : DIx := (Fin.ofNat 4 ((q.val - 3) / 6), Fin.ofNat 2 ((q.val - 3) % 6 / 3), Fin.ofNat 3 ((q.val - 3) % 3))
theorem ixOf_dsem (x : DIx) : ixOf (dsem x) = x := by revert x; decide +kernel
theorem dsem_ge (x : DIx) : 3 ≤ (dsem x).val := by unfold dsem; simp only; omega
theorem dsem_inj : Function.Injective dsem := fun x y h => by rw [← ixOf_dsem x, h, ixOf_dsem]

abbrev barCell (c : Dev nD) : GSem nD τ sig := ((c : Thread nD τ), .reg barS)
abbrev dCell (c : Dev nD) (x : DIx) : GSem nD τ sig := ((c : Thread nD τ), .dma (dsem x))

/-- What one transfer of a block moves on its semaphores. -/
abbrev N : ℕ := (slotQ rcM 0 0).view.dmaCredit
theorem N_pos : 0 < N := View.dmaCredit_pos _ (by decide)

/-! ## Contents -/

variable (m : (ℓ : Loc nD τ sig) → Buf (Elt F) ℓ)

/-- Device `c`'s columns of the first matrix and rows of the second, as staged. -/
def aStg (c : Dev nD) : (cc0_stg0_0 : Ref sig .tc).ty.Contents (Elt F) :=
  (win0_0.blk (0 : Fin 1)).view.read (Elt F) (m ((c : Thread nD τ).loc main_arg0))
def bStg (c : Dev nD) : (cc0_stg1_0 : Ref sig .tc).ty.Contents (Elt F) :=
  (win0_1.blk (0 : Fin 1)).view.read (Elt F) (m ((c : Thread nD τ).loc main_arg1))

/-- The 128 rows of device `c`'s columns that piece `j` is formed from, and those of its own chunk. -/
def aPiece (c : Dev nD) (j : Fin 3) : Vec F S128x256 .bf16 :=
  aM.view.readAt (Elt F) (Rect.unit (s := S512x256) (k0_off1 c (BitVec.ofNat 32 (1 + j.val))) S128x256.size (k0_off1_inb c j)).toLoadRect (aStg m c)
def aOwn (c : Dev nD) : Vec F S128x256 .bf16 :=
  aM.view.readAt (Elt F) (Rect.unit (s := S512x256) (k0_off2 c) S128x256.size (k0_off2_inb c)).toLoadRect (aStg m c)

/-- Column half `h` of the piece device `c` forms for device `sh c j`. -/
def piece (c : Dev nD) (h : Fin 2) (j : Fin 3) : Vec F S1x1x128x256 .bf16 :=
  match h with
  | 0 => k0_pay3 (k0_pay1 (bStg m c)) (aPiece m c j)
  | 1 => k0_pay8 (k0_pay1 (bStg m c)) (aPiece m c j)

/-- Column half `h` of the finished row chunk `c`: device `c`'s own product and the three pieces it receives. -/
def chunk (c : Dev nD) (h : Fin 2) : Vec F S128x256 .bf16 :=
  match h with
  | 0 => k0_pay16 (k0_pay14 (k0_pay13 (k0_pay1 (bStg m c)) (aOwn m c) (piece m (us c 0) 0 0)) (piece m (us c 1) 0 1)) (k0_pay15 (piece m (us c 2) 0 2))
  | 1 => k0_pay18 (k0_pay17 (k0_pay12 (k0_pay1 (bStg m c)) (aOwn m c)) (piece m (us c 0) 1 0)) (piece m (us c 1) 1 1) (piece m (us c 2) 1 2)

/-! ## What a wait hands over -/

abbrev ownsF (c : Dev nD) {s : Shape} (M : Memref sig .tc .vmem s .bf16) (q : PosShare TreeShare) (X : Vec F s .bf16) : sProp 𝕄 :=
  owns (Ix := Unit) (Name := ℕ) (U := UU) (Lvl := ℕ) (c : Thread nD τ) M q X
/-- A part of a buffer, held whole at some contents. -/
def free (c : Dev nD) {s : Shape} (M : Memref sig .tc .vmem s .bf16) : sProp 𝕄 := iprop(∃ X : Vec F s .bf16, ownsF c M fullShare X)

omit [FloatOps F] in
instance free_storable (c : Dev nD) {s : Shape} (M : Memref sig .tc .vmem s .bf16) : BI.Storable (upEmb : UEmb _ 𝕄) (free (F := F) c M) := by
  unfold free; infer_instance

/-- The three shares a finished chunk is read at, one per transfer of it. -/
def part (j : Fin 3) : PosShare TreeShare := match j with | 0 => fullShare.left | 1 => fullShare.right.left | 2 => fullShare.right.right

/-- What device `sh c j` gives `c` at the start: the landing slots of `c`'s piece `j`, and the place of chunk `c` in its result. -/
def barPay (c : Dev nD) (j : Fin 3) : sProp 𝕄 :=
  iprop(free (sh c j) (slotM rcM 0 j) ∗ free (sh c j) (slotM rcM 1 j) ∗ free (sh c j) (outM 0 c) ∗ free (sh c j) (outM 1 c))

/-- What a completed transfer hands over: a sent piece, a received piece, a sent chunk at its share, a received chunk. -/
def dmaPay (c : Dev nD) (x : DIx) : sProp 𝕄 :=
  match x with
  | (0, h, j) => ownsF c (slotM stM h j) fullShare (piece m c h j)
  | (1, h, j) => ownsF c (slotM rcM h j) fullShare (piece m (us c j) h j)
  | (2, h, j) => ownsF c (outM h c) (part j) (chunk m c h)
  | (3, h, j) => ownsF c (outM h (us c j)) fullShare (chunk m (us c j) h)

omit [FloatOps F] in
instance barPay_storable (c : Dev nD) (j : Fin 3) : BI.Storable (upEmb : UEmb _ 𝕄) (barPay (F := F) c j) := by unfold barPay; infer_instance
instance dmaPay_storable (c : Dev nD) (x : DIx) : BI.Storable (upEmb : UEmb _ 𝕄) (dmaPay m c x) := by
  obtain ⟨k, h, j⟩ := x
  fin_cases k <;> (unfold dmaPay ownsF; infer_instance)

/-! ## The schedule -/

/-- Every cell runs one round: a barrier cell's is paid by the three other devices, one unit each, a transfer cell's by
    one transfer of a block. -/
def rd : Rounds.Schedule (GSem nD τ sig) Duty 𝕄 where
  duties g r := if r = 0 ∧ g.1.2 = .tc then (match g.2 with
    | .reg s => if s = barS then Finset.univ else ∅
    | .dma q => if 3 ≤ q.val then {0} else ∅) else ∅
  unitless _ := False
  amount g _ _ := match g.2 with | .reg _ => 1 | .dma _ => N
  payload g _ d := match g.2 with | .reg _ => barPay g.1.1 d | .dma q => dmaPay m g.1.1 (ixOf q)
  amount_pos g _ _ _ := by
    rcases g with ⟨t, s | q⟩
    · exact Nat.one_pos
    · exact N_pos

instance rd_payload_storable (g : GSem nD τ sig) (r : ℕ) (d : Duty) : BI.Storable (upEmb : UEmb _ 𝕄) ((rd m).payload g r d) := by
  rcases g with ⟨t, s | q⟩
  · exact barPay_storable t.1 d
  · exact dmaPay_storable m t.1 (ixOf q)

section Rd
variable (c : Dev nD) (x : DIx)

theorem duties_bar : (rd m).duties (barCell c) 0 = Finset.univ := by
  dsimp only [rd]; rw [if_pos ⟨rfl, rfl⟩]; exact if_pos rfl
theorem duties_dma : (rd m).duties (dCell c x) 0 = {0} := by
  dsimp only [rd]; rw [if_pos ⟨rfl, rfl⟩]; exact if_pos (dsem_ge x)
theorem duties_later (g : GSem nD τ sig) : ∀ r, 1 ≤ r → (rd m).duties g r = ∅ :=
  fun r hr => by dsimp only [rd]; exact if_neg fun h => by omega
theorem expect_bar : (rd m).expect (barCell c) 0 = 3 := by
  unfold Schedule.expect Schedule.amountOf; rw [duties_bar]; rfl
theorem expect_dma : (rd m).expect (dCell c x) 0 = N := by
  unfold Schedule.expect Schedule.amountOf; rw [duties_dma, Finset.sum_singleton]; rfl
theorem payload_dma (d : Duty) : (rd m).payload (dCell c x) 0 d = dmaPay m c x := by
  show dmaPay m c (ixOf (dsem x)) = _; rw [ixOf_dsem]
/-- All a barrier cell's round hands over, and all a transfer cell's does. -/
theorem rest_bar : bigSep ((rd m).duties (barCell c) 0 \ ∅) (fun d => (rd m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_dma : bigSep ((rd m).duties (dCell c x) 0 \ ∅) (fun d => (rd m).payload (dCell c x) 0 d) = dmaPay m c x := by
  rw [Finset.sdiff_empty, duties_dma, bigSep_singleton, payload_dma]

end Rd

/-! ## What each device owes, and the levels -/

/-- A cell of either kind: a device and, for a transfer cell, its name. -/
abbrev Tgt : Type := Dev nD × Option DIx
def tcell : Tgt → GSem nD τ sig | (d, none) => barCell d | (d, some x) => dCell d x
def tamt : Tgt → ℕ | (_, none) => 1 | (_, some _) => N

theorem tcell_inj : Function.Injective tcell := by
  rintro ⟨d, _ | x⟩ ⟨d', _ | x'⟩ h
  · have := congrArg (fun g : GSem nD τ sig => g.1.1) h; cases this; rfl
  · have := congrArg (fun g : GSem nD τ sig => g.2) h; cases this
  · have := congrArg (fun g : GSem nD τ sig => g.2) h; cases this
  · have h1 : d = d' := congrArg (fun g : GSem nD τ sig => g.1.1) h
    have h2 : SemLoc.dma (dsem x) = SemLoc.dma (dsem x') := congrArg (fun g : GSem nD τ sig => g.2) h
    rw [h1, dsem_inj (SemLoc.dma.inj h2)]

/-- The dues of a list of payments still to make, the head of the list to be paid first. -/
def owed : List Tgt → CellTallies nD τ sig Unit
  | [] => 0
  | t :: l => owed l + tallyAt (tcell t) () (tamt t)

/-- The payments device `c` makes from its waits for the pieces' second halves on, -/
abbrev debts₃ (c : Dev nD) : List Tgt := [(sh c 1, some (3, 1, 1)), (sh c 0, some (3, 1, 0)), (sh c 2, some (3, 1, 2))]
/-- from its waits for the first halves on, -/
abbrev debts₂ (c : Dev nD) : List Tgt := (sh c 1, some (3, 0, 1)) :: (sh c 0, some (3, 0, 0)) :: (sh c 2, some (3, 0, 2)) :: debts₃ c
/-- from its wait at the barrier on, -/
abbrev debts₁ (c : Dev nD) : List Tgt :=
  (sh c 1, some (1, 0, 1)) :: (sh c 0, some (1, 0, 0)) :: (sh c 2, some (1, 0, 2))
    :: (sh c 1, some (1, 1, 1)) :: (sh c 0, some (1, 1, 0)) :: (sh c 2, some (1, 1, 2)) :: debts₂ c
/-- and all of them, in the order it makes them. -/
abbrev debts (c : Dev nD) : List Tgt := (sh c 0, none) :: (sh c 1, none) :: (sh c 2, none) :: debts₁ c

theorem owed_pos (l : List Tgt) {g : GSem nD τ sig} {u : Unit} (h : 0 < owed l g u) : ∃ t ∈ l, g = tcell t := by
  induction l with
  | nil => exact absurd h (Nat.lt_irrefl 0)
  | cons t l ih =>
    unfold owed at h
    rw [Pi.add_apply, Finsupp.add_apply, tallyAt_apply] at h
    by_cases hg : g = tcell t
    · exact ⟨t, List.mem_cons_self, hg⟩
    · rw [if_neg (fun h' => hg h'.1), Nat.add_zero] at h
      obtain ⟨t', ht', e⟩ := ih h
      exact ⟨t', List.mem_cons_of_mem _ ht', e⟩

/-- A cell is owed its amount once for every time the list names it. -/
theorem owed_count (l : List Tgt) (t : Tgt) : owed l (tcell t) () = l.count t * tamt t := by
  induction l with
  | nil => rw [List.count_nil, Nat.zero_mul]; rfl
  | cons t' l ih =>
    unfold owed
    rw [Pi.add_apply, Finsupp.add_apply, tallyAt_apply, ih, List.count_cons]
    by_cases h : t' = t
    · subst h; rw [if_pos ⟨rfl, rfl⟩, beq_self_eq_true, if_pos rfl, Nat.add_mul, Nat.one_mul]
    · rw [if_neg (fun h' => h (tcell_inj h'.1).symm), if_neg (by simpa using h)]; rfl

def L (g : GSem nD τ sig) : Finset Unit := if g.1.2 = .tc then {()} else ∅
/-- Levels: a wait may only be made while everything still owed lies higher. Barrier `1`, received pieces `2`, received
    chunks `3`; what a device waits for of its own, `0`. -/
def lv (g : GSem nD τ sig) (_ : Unit) : ℕ :=
  match g.2 with
  | .reg _ => 1
  | .dma q => match (ixOf q).1 with | 1 => 2 | 3 => 3 | _ => 0

theorem L_of_ne (g : GSem nD τ sig) (h : g.1.2 ≠ .tc) : L g = ∅ := if_neg h
theorem L_tc (c : Dev nD) (sm : SemLoc sig) : L ((c : Thread nD τ), sm) = {()} := if_pos rfl
theorem mem_L_tcell (t : Tgt) (u : Unit) : u ∈ L (tcell t) := by
  obtain ⟨d, _ | x⟩ := t <;> exact Finset.mem_singleton_self _

/-- Device `c` may wait on a cell of its own while all it owes lies higher. -/
theorem mayWait (c : Dev nD) (sm : SemLoc sig) (l : List Tgt) (hl : ∀ t ∈ l, lv ((c : Thread nD τ), sm) () < lv (tcell t) ()) :
    (levAts L lv : sProp 𝕄) ⊢ MayWait (c : Thread nD τ) sm () (owed l) :=
  MayOwe.of_cut (L := L) (lev := lv) (lv ((c : Thread nD τ), sm) ())
    (fun p hp => by rw [Finset.mem_singleton.mp hp, L_tc]; exact Finset.mem_singleton_self _)
    (fun g u hg => by obtain ⟨t, -, rfl⟩ := owed_pos l hg; exact mem_L_tcell t u)
    (fun p hp => by rw [Finset.mem_singleton.mp hp])
    (fun g u hg => by obtain ⟨t, ht, rfl⟩ := owed_pos l hg; exact hl t ht)

/-- The level of a cell, on the two kinds. -/
def lvT : Tgt → ℕ | (_, none) => 1 | (_, some x) => match x.1 with | 1 => 2 | 3 => 3 | _ => 0
theorem lv_tcell (t : Tgt) : lv (tcell t) () = lvT t := by
  obtain ⟨d, _ | x⟩ := t
  · rfl
  · show (match (ixOf (dsem x)).1 with | 1 => 2 | 3 => 3 | _ => 0) = _; rw [ixOf_dsem]; rfl

/-- Everything device `c` ever owes lies above its staging cells, and so on down the program. -/
theorem debts_above (c : Dev nD) : ∀ t ∈ debts c, 0 < lvT t := by revert c; decide +kernel
theorem debts₁_above (c : Dev nD) : ∀ t ∈ debts₁ c, 1 < lvT t := by revert c; decide +kernel
theorem debts₂_above (c : Dev nD) : ∀ t ∈ debts₂ c, 2 < lvT t := by revert c; decide +kernel
theorem debts₃_above (c : Dev nD) : ∀ t ∈ debts₃ c, 2 < lvT t := by revert c; decide +kernel

end Cert.KernelIdeal.Mesh

end
-- ==== Proof.KernelIdeal.Steps.lean ====
/-
One rule per kind of step the kernel makes: a signal to another device, the wait at the barrier, a transfer of a piece
or of a finished chunk, a wait on a transfer, and the accesses of slots and chunks. Each is stated once, for every
device, half and piece.
-/
module

public import proofs.«01_k».proof.Proof.KernelIdeal.Sched
public import Idealize.ShloMosaic.Lib.StableHlo.CollectiveRules
public import Idealize.ShloMosaic.Lib.Pipeline.Value

@[expose] public section

noncomputable section

namespace Cert.KernelIdeal.Mesh

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Records: what every device may look up at any time -/

/-- That cell `t` follows the schedule, under name `K t`, and has begun. -/
def record (K : Tgt → ℕ) (t : Tgt) : sProp 𝕄 := iprop(cellInv ER (rd m) (K t) (tcell t) ∗ reached ER (tcell t) 0)
/-- That of every cell, and the levels. -/
def records (K : Tgt → ℕ) : sProp 𝕄 := iprop(bigSep Finset.univ (record m K) ∗ levAts L lv)

instance record_persistent (K : Tgt → ℕ) (t : Tgt) : BI.Persistent (record m K t) := by unfold record; infer_instance
instance records_persistent (K : Tgt → ℕ) : BI.Persistent (records m K) := by unfold records; infer_instance

theorem records_get (K : Tgt → ℕ) (t : Tgt) : records m K ⊢ iprop(cellInv ER (rd m) (K t) (tcell t) ∗ reached ER (tcell t) 0) := by
  show iprop(bigSep Finset.univ (record m K) ∗ levAts L lv) ⊢ record m K t
  iintro ⟨H, -⟩
  iapply (show bigSep Finset.univ (record m K) ⊢ record m K t from bigSep_elim (Finset.mem_univ t)) $$ H
theorem records_lev (K : Tgt → ℕ) : records m K ⊢ levAts L lv := by
  unfold records
  iintro ⟨-, H⟩; iexact H

/-- What device `c` still owes, whatever it has waited for so far. -/
def owesA (c : Dev nD) (l : List Tgt) : sProp 𝕄 := iprop(∃ W : Waits sig Unit, owes (c : Thread nD τ) (owed l) W)

/-- What a device needs in order to wait on its cell `x`: its place there and the amount to come. -/
def waiter (c : Dev nD) (x : DIx) : sProp 𝕄 := iprop(atPos ER (dCell c x) 0 ∅ 0 ∗ cred (tallyAt (dCell c x) () N))

/-- A device's transfer semaphore back at zero, with what the transfer on it handed over. -/
def settled (c : Dev nD) (x : DIx) : sProp 𝕄 := iprop(semVal (dCell c x) 0 ∗ dmaPay m c x)

section
variable (K : Tgt → ℕ) (c : Dev nD)

/-- The signal to device `n = us c d`, paying its duty `d`: `c` gives away the landing slots of piece `d` and the place of
    chunk `n` in its own result. -/
theorem wp_meet {α : Type} {Q : α → sProp 𝕄} {k : PUnit → Prog (TpuEff nD τ sig (Elt F) Λ₀ .tc) α}
    (n : Dev nD) (d : Fin 3) (hn : n = us c d) (l : List Tgt) :
    records m K
      ⊢ iprop(owesA c ((n, none) :: l) -∗ dutyTok ER (barCell n) 0 d
          -∗ free c (slotM rcM 0 d) -∗ free c (slotM rcM 1 d) -∗ free c (outM 0 n) -∗ free c (outM 1 n)
          -∗ (owesA c l -∗ wp frame (wpE (defs₀ (F := F)) 𝒱₀ (c : Thread nD τ) none) Set.univ (k ⟨⟩) Q) -∗ wp frame (wpE (defs₀ (F := F)) 𝒱₀ (c : Thread nD τ) none) Set.univ (.op (.semSignal (n : Thread nD τ) barS 1) k) Q) := by
  have e : sh n d = c := by rw [hn, sh_us]
  unfold owesA
  iintro #HR ⟨%W, HO⟩ Ht H0 H1 H2 H3 Hk
  ihave HI := (records_get m K (n, none)) $$ HR
  icases HI with ⟨#HI, #Hr⟩
  iapply (Rounds.wp_signal 𝒱₀ ER (rd m) (c : Thread nD τ) none (dst := (n : Thread nD τ)) (κ := K (n, none))
      (d := d) (by rw [duties_bar]; exact Finset.mem_univ _) rfl () (owed l) rfl) $$ [HO Ht H0 H1 H2 H3]
  · isplitr; · iexact HI
    isplitl [HO]; · iexact HO
    isplitl [Ht]; · iexact Ht
    isplitl [H0 H1 H2 H3]
    · rw [show (rd m).payload (barCell n) 0 d = barPay n d from rfl]
      unfold barPay; rw [e]
      isplitl [H0]; · iexact H0
      isplitl [H1]; · iexact H1
      isplitl [H2] <;> iassumption
    iexact Hr
  iintro HO
  iapply Hk
  iexists W; iexact HO

/-- The wait at the barrier: the three other devices' landing slots and the places of chunk `c` in their results; the
    barrier cell is done with. -/
theorem wp_gather {α : Type} {Q : α → sProp 𝕄} {k : PUnit → Prog (TpuEff nD τ sig (Elt F) Λ₀ .tc) α}
    (l : List Tgt) (hl : ∀ t ∈ l, 1 < lvT t) :
    records m K
      ⊢ iprop(owesA c l -∗ atPos ER (barCell c) 0 ∅ 0 -∗ cred (tallyAt (barCell c) () 3)
          -∗ ((owesA c l ∗ semVal (barCell c) 0 ∗ barPay c 0 ∗ barPay c 1 ∗ barPay c 2) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  unfold owesA
  iintro #HR ⟨%W, HO⟩ Hat Hc Hk
  ihave HI := (records_get m K (c, none)) $$ HR
  icases HI with ⟨#HI, -⟩
  ihave #HL := (records_lev m K) $$ HR
  iapply (Rounds.wp_wait_rest_token 𝒱₀ ER (rd m) (c : Thread nD τ) none (κ := K (c, none))
      (wpE_semWait_eq 𝒱₀ (c : Thread nD τ) none Set.univ) (Set.mem_univ _) () (O := owed l) (W := W) (R := 0) (m := 0) (T := ∅)
      (by rw [expect_bar])) $$ [Hc HO Hat]
  · isplitr; · iexact HI
    isplitl [Hc]; · iexact Hc
    isplitl [HO]; · iexact HO
    isplitr; · iapply (mayWait c (.reg barS) l (fun t ht => by rw [lv_tcell]; exact hl t ht)); iexact HL
    iexact Hat
  iintro ⟨HO, Hat, -, Hp⟩
  ihave Hp := (Entails.of_eq (rest_bar m c)) $$ Hp
  imod (Rounds.cell_close ER (rd m) (Set.mem_univ (K (c, none))) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-- A wait on transfer cell `x`: what the transfer hands over, and the cell is done with. -/
theorem wp_await {α : Type} {Q : α → sProp 𝕄} {k : PUnit → Prog (TpuEff nD τ sig (Elt F) Λ₀ .tc) α}
    (x : DIx) (l : List Tgt) (hl : ∀ t ∈ l, lvT (c, some x) < lvT t)
    {sp sp' : Space} {s s' : Shape} {e e' : EltTy} {src : Memref sig .tc sp' s' e'} {dst : Memref sig .tc sp s e}
    {hsrc : src.view.WordExact} {hdst : dst.view.WordExact} (hN : dst.view.dmaCredit = N) :
    records m K
      ⊢ iprop(owesA c l -∗ waiter c x
          -∗ ((owesA c l ∗ settled m c x) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dsem x) src dst hsrc hdst) k) Q) := by
  unfold owesA waiter
  iintro #HR ⟨%W, HO⟩ ⟨Hat, Hc⟩ Hk
  ihave HI := (records_get m K (c, some x)) $$ HR
  icases HI with ⟨#HI, -⟩
  ihave #HL := (records_lev m K) $$ HR
  iapply (Rounds.wp_wait_rest_token 𝒱₀ ER (rd m) (c : Thread nD τ) none (κ := K (c, some x))
      (wpE_waitDma2_eq 𝒱₀ (c : Thread nD τ) none Set.univ) (Set.mem_univ _) () (O := owed l) (W := W) (R := 0) (m := 0) (T := ∅)
      (by rw [Nat.zero_add, hN]; exact (expect_dma m c x).symm)) $$ [Hc HO Hat]
  · isplitr; · iexact HI
    isplitl [Hc]; · rw [hN]; iexact Hc
    isplitl [HO]; · iexact HO
    isplitr
    · iapply (mayWait c (.dma (dsem x)) l (fun t ht => by rw [lv_tcell]; exact lt_of_eq_of_lt (lv_tcell (c, some x)) (hl t ht))); iexact HL
    iexact Hat
  iintro ⟨HO, Hat, -, Hp⟩
  ihave Hp := (Entails.of_eq (rest_dma m c x)) $$ Hp
  imod (Rounds.cell_close ER (rd m) (Set.mem_univ (K (c, some x))) (fun h => h) (R := 0 + 1) (duties_later m (dCell c x))) $$ [Hat] with Hz
  · isplitr; · iexact HI
    iexact Hat
  iapply Hk
  isplitl [HO]; · iexists _; iexact HO
  unfold settled
  isplitl [Hz]; · iexact Hz
  iexact Hp

/-- A transfer to device `n` between two parts of one shape, whose contents the two cells hand on. -/
theorem wp_xfer {α : Type} {Q : α → sProp 𝕄} {k : PUnit → Prog (TpuEff nD τ sig (Elt F) Λ₀ .tc) α}
    (n n' : Dev nD) (hn : n' = n) (x₁ x₂ : DIx) {s : Shape} {src dst : Memref sig .tc .vmem s .bf16} (q : PosShare TreeShare) (X : Vec F s .bf16)
    (h₁ : ownsF c src q X ⊢ dmaPay m c x₁) (h₂ : ownsF n dst fullShare X ⊢ dmaPay m n x₂) (hN : dst.view.amount (.dma (dsem x₂) : SemLoc sig) = N)
    {hsc : (dst : Memref sig (Dev.tc n' : Thread nD τ).2.kind .vmem s .bf16).view.ref.isScScratch = false}
    {hsrc : src.view.WordExact} {hdst : dst.view.WordExact}
    {hsem : DmaTarget.Typed .vmem (.dma (dsem x₂)) (.remote (Dev.tc n' : Thread nD τ) dst (.dma (dsem x₁)) hsc)} (l : List Tgt) :
    iprop(records m K ∗ owesA c ((n, some x₂) :: l) ∗ dutyTok ER (dCell c x₁) 0 0 ∗ dutyTok ER (dCell n x₂) 0 0
        ∗ ownsF c src q X ∗ free n dst)
      ⊢ iprop(((owesA c l ∗ cred (tallyAt (dCell c x₁) () N)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n' : Thread nD τ) dst (.dma (dsem x₁)) hsc) (.dma (dsem x₂)) hsrc hdst hsem) k) Q) := by
  subst hn
  unfold owesA free
  iintro ⟨#HR, ⟨%W, HO⟩, Ht₁, Ht₂, Hs, ⟨%Y, Hd⟩⟩ Hk
  ihave HI := (records_get m K (c, some x₁)) $$ HR
  icases HI with ⟨#HI₁, #Hr₁⟩
  ihave HI := (records_get m K (n', some x₂)) $$ HR
  icases HI with ⟨#HI₂, #Hr₂⟩
  ihave Hs := (show ownsF c src q X ⊢ iprop(∃ f, ⌜src.view.read (Elt F) f = X⌝ ∗ src.view.loc (c : Thread nD τ) ↦[src.view.set]{q} f) from .rfl) $$ Hs
  icases Hs with ⟨%fs, %hfs, Hs⟩
  subst hfs
  ihave Hd := (show ownsF n' dst fullShare Y ⊢ iprop(∃ f, ⌜dst.view.read (Elt F) f = Y⌝ ∗ dst.view.loc (n' : Thread nD τ) ↦[dst.view.set]{fullShare} f) from .rfl) $$ Hd
  icases Hd with ⟨%fd, %hfd, Hd⟩
  iapply (Rounds.wp_send_pointsTo 𝒱₀ ER (rd m) (c : Thread nD τ) none (κ₁ := K (c, some x₁)) (κ₂ := K (n', some x₂))
    (r₁ := 0) (r₂ := 0) (d₁ := 0) (d₂ := 0) (fs := fs) (fd := fd)
    (by rw [duties_dma]; exact Finset.mem_singleton_self _) (by rw [duties_dma]; exact Finset.mem_singleton_self _)
    () () N hN rfl rfl (owed l) rfl (W := W)
    (by rw [payload_dma]; exact (owns_intro _ _ _ _).trans h₁)
    (by
      rw [payload_dma]
      refine (owns_intro _ _ _ _).trans ?_
      rw [View.read_write_univ]; exact h₂)) $$ [HO Ht₁ Ht₂ Hs Hd]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]; · iexists W; iexact HO
  iexact Hc

/-! ## The kernel's two kinds of transfer -/

/-- A piece held as a matrix is the slot held as it is. -/
theorem owns_squeeze (d : Dev nD) (M : Memref sig .tc .vmem S1x1x128x256 .bf16) (q : PosShare TreeShare) (X : Vec F S1x1x128x256 .bf16) :
    ownsF d (M.squeeze S128x256 squeezes_S1x1x128x256_S128x256) q (shapeCast S128x256 X shapeCasts_S1x1x128x256_S128x256) = ownsF d M q X := by
  have hread (f : M.view.ty.Contents (Elt F)) : (M.squeeze S128x256 squeezes_S1x1x128x256_S128x256).view.read (Elt F) f
      = shapeCast S128x256 (M.view.read (Elt F) f) shapeCasts_S1x1x128x256_S128x256 := rfl
  have hset : (M.squeeze S128x256 squeezes_S1x1x128x256_S128x256).view.set = M.view.set := View.set_reshape _ _
  refine BI.Entails.antisymm ?_ ?_
  · show ownsF d (M.squeeze S128x256 squeezes_S1x1x128x256_S128x256) q (shapeCast S128x256 X shapeCasts_S1x1x128x256_S128x256) ⊢ ownsF d M q X
    unfold ownsF owns
    iintro ⟨%f, %hf, H⟩
    iexists f
    isplitr
    · ipureintro
      rw [hread] at hf
      rw [← shapeCast_shapeCast (M.view.read (Elt F) f) shapeCasts_S1x1x128x256_S128x256 shapeCasts_S128x256_S1x1x128x256, hf, shapeCast_shapeCast]
    · rw [hset]; iexact H
  · show ownsF d M q X ⊢ ownsF d (M.squeeze S128x256 squeezes_S1x1x128x256_S128x256) q (shapeCast S128x256 X shapeCasts_S1x1x128x256_S128x256)
    unfold ownsF owns
    iintro ⟨%f, %hf, H⟩
    iexists f
    isplitr
    · ipureintro; rw [hread, hf]
    · rw [hset]; iexact H

/-- What device `c` needs for the transfer of half `h` of piece or chunk `j`, sent on array `a` and received on array `b`:
    the two cells' duties and its place at the sending one. -/
def fare (c : Dev nD) (a b : Fin 4) (h : Fin 2) (j : Fin 3) : sProp 𝕄 :=
  iprop(dutyTok ER (dCell c (a, h, j)) 0 0 ∗ dutyTok ER (dCell (sh c j) (b, h, j)) 0 0 ∗ atPos ER (dCell c (a, h, j)) 0 ∅ 0)

/-- The transfer of a staged piece into its landing slot. -/
theorem wp_piece {α : Type} {Q : α → sProp 𝕄} {k : PUnit → Prog (TpuEff nD τ sig (Elt F) Λ₀ .tc) α}
    (n : Dev nD) (h : Fin 2) (j : Fin 3) (hn : n = sh c j)
    {hsc : (slotQ rcM h j : Memref sig (Dev.tc n : Thread nD τ).2.kind .vmem S128x256 .bf16).view.ref.isScScratch = false}
    {hsrc : (slotQ stM h j).view.WordExact} {hdst : (slotQ rcM h j).view.WordExact}
    {hsem : DmaTarget.Typed .vmem (.dma (dsem (1, h, j))) (.remote (Dev.tc n : Thread nD τ) (slotQ rcM h j) (.dma (dsem (0, h, j))) hsc)} (l : List Tgt) :
    records m K
      ⊢ iprop(owesA c ((sh c j, some (1, h, j)) :: l) -∗ fare c 0 1 h j
          -∗ ownsF c (slotM stM h j) fullShare (piece m c h j) -∗ free (sh c j) (slotM rcM h j)
          -∗ ((owesA c l ∗ waiter c (0, h, j)) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (slotQ stM h j) (.remote (Dev.tc n : Thread nD τ) (slotQ rcM h j) (.dma (dsem (0, h, j))) hsc) (.dma (dsem (1, h, j))) hsrc hdst hsem) k) Q) := by
  have h₁ : ownsF c (slotQ stM h j) fullShare (shapeCast S128x256 (piece m c h j) shapeCasts_S1x1x128x256_S128x256) ⊢ dmaPay m c (0, h, j) :=
    Entails.of_eq (owns_squeeze c (slotM stM h j) fullShare (piece m c h j))
  have h₂ : ownsF (sh c j) (slotQ rcM h j) fullShare (shapeCast S128x256 (piece m c h j) shapeCasts_S1x1x128x256_S128x256) ⊢ dmaPay m (sh c j) (1, h, j) := by
    show _ ⊢ ownsF (sh c j) (slotM rcM h j) fullShare (piece m (us (sh c j) j) h j)
    rw [us_sh]
    exact Entails.of_eq (owns_squeeze (sh c j) (slotM rcM h j) fullShare (piece m c h j))
  unfold fare waiter free
  iintro #HR HO ⟨Ht₁, Ht₂, Hat⟩ Hs ⟨%Y, Hd⟩ Hk
  iapply (wp_xfer m K c (sh c j) n hn (0, h, j) (1, h, j) fullShare (shapeCast S128x256 (piece m c h j) shapeCasts_S1x1x128x256_S128x256) h₁ h₂ rfl l) $$ [HO Ht₁ Ht₂ Hs Hd]
  · isplitr; · iexact HR
    isplitl [HO]; · iexact HO
    isplitl [Ht₁]; · iexact Ht₁
    isplitl [Ht₂]; · iexact Ht₂
    isplitl [Hs]; · rw [owns_squeeze]; iexact Hs
    unfold free
    iexists (shapeCast S128x256 Y shapeCasts_S1x1x128x256_S128x256)
    rw [owns_squeeze]; iexact Hd
  iintro ⟨HO, Hc⟩
  iapply Hk
  isplitl [HO]; · iexact HO
  isplitl [Hat] <;> iassumption

/-- The transfer of half `h` of the finished chunk, read at share `part j`, into its place in the other device's result. -/
theorem wp_chunk {α : Type} {Q : α → sProp 𝕄} {k : PUnit → Prog (TpuEff nD τ sig (Elt F) Λ₀ .tc) α}
    (n : Dev nD) (h : Fin 2) (j : Fin 3) (hn : n = sh c j)
    {hsc : (outM h c : Memref sig (Dev.tc n : Thread nD τ).2.kind .vmem S128x256 .bf16).view.ref.isScScratch = false}
    {hsrc : (outM h c).view.WordExact} {hdst : (outM h c).view.WordExact}
    {hsem : DmaTarget.Typed .vmem (.dma (dsem (3, h, j))) (.remote (Dev.tc n : Thread nD τ) (outM h c) (.dma (dsem (2, h, j))) hsc)} (l : List Tgt) :
    records m K
      ⊢ iprop(owesA c ((sh c j, some (3, h, j)) :: l) -∗ fare c 2 3 h j
          -∗ ownsF c (outM h c) (part j) (chunk m c h) -∗ free (sh c j) (outM h c)
          -∗ ((owesA c l ∗ waiter c (2, h, j)) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (outM h c) (.remote (Dev.tc n : Thread nD τ) (outM h c) (.dma (dsem (2, h, j))) hsc) (.dma (dsem (3, h, j))) hsrc hdst hsem) k) Q) := by
  have h₁ : ownsF c (outM h c) (part j) (chunk m c h) ⊢ dmaPay m c (2, h, j) := .rfl
  have h₂ : ownsF (sh c j) (outM h c) fullShare (chunk m c h) ⊢ dmaPay m (sh c j) (3, h, j) := by
    show _ ⊢ ownsF (sh c j) (outM h (us (sh c j) j)) fullShare (chunk m (us (sh c j) j) h)
    rw [us_sh]
  have hN : (outM h c).view.amount (.dma (dsem (3, h, j))) = N := rfl
  unfold fare waiter
  iintro #HR HO ⟨Ht₁, Ht₂, Hat⟩ Hs Hd Hk
  iapply (wp_xfer m K c (sh c j) n hn (2, h, j) (3, h, j) (part j) (chunk m c h) h₁ h₂ hN l) $$ [HO Ht₁ Ht₂ Hs Hd]
  · isplitr; · iexact HR
    isplitl [HO]; · iexact HO
    isplitl [Ht₁]; · iexact Ht₁
    isplitl [Ht₂]; · iexact Ht₂
    isplitl [Hs] <;> iassumption
  iintro ⟨HO, Hc⟩
  iapply Hk
  isplitl [HO]; · iexact HO
  isplitl [Hat] <;> iassumption

/-! ## Accesses of a part of a buffer that is held by itself -/

/-- A load of a part held at contents `X` reads `X`. -/
theorem wp_read {α : Type} {Q : α → sProp 𝕄} {s : Shape} {M : Memref sig .tc .vmem s .bf16} {r : Rect s} (hr : ∀ a, r.stride a = 1)
    {q : PosShare TreeShare} {X : Vec F r.shape .bf16} {hl : M.view.LoadsAt r.toLoadRect}
    {k : (r.shape.Idx → Elt F .bf16) → Prog (TpuEff nD τ sig (Elt F) Λ₀ .tc) α} :
    ownsF c (M.slice r hr) q X
      ⊢ iprop((ownsF c (M.slice r hr) q X -∗ wp frame (wpE (defs₀ (F := F)) 𝒱₀ (c : Thread nD τ) none) Set.univ (k X) Q)
          -∗ wp frame (wpE (defs₀ (F := F)) 𝒱₀ (c : Thread nD τ) none) Set.univ (.op (.load M r.toLoadRect hl) k) Q) := by
  unfold ownsF owns
  iintro ⟨%f, %hf, H⟩ Hk
  subst hf
  iapply (wp_load_rect 𝒱₀ (c : Thread nD τ) none Set.univ (m := M) (r := r) (Finset.Subset.refl _)) $$ H
  iintro H
  iapply Hk
  iexists f
  isplitr; · ipureintro; rfl
  iexact H

/-- A load of a received piece. -/
theorem wp_landed {α : Type} {Q : α → sProp 𝕄} (h : Fin 2) (j : Fin 3) {hl : rcM.view.LoadsAt (slotR h j).toLoadRect}
    {k : (S1x1x128x256.Idx → Elt F .bf16) → Prog (TpuEff nD τ sig (Elt F) Λ₀ .tc) α} :
    settled m c (1, h, j)
      ⊢ iprop((settled m c (1, h, j) -∗ wp frame (wpE (defs₀ (F := F)) 𝒱₀ (c : Thread nD τ) none) Set.univ (k (piece m (us c j) h j)) Q)
          -∗ wp frame (wpE (defs₀ (F := F)) 𝒱₀ (c : Thread nD τ) none) Set.univ (.op (.load rcM (slotR h j).toLoadRect hl) k) Q) := by
  unfold settled
  rw [show dmaPay m c (1, h, j) = ownsF c (slotM rcM h j) fullShare (piece m (us c j) h j) from rfl]
  iintro ⟨Hz, H⟩ Hk
  iapply (wp_read c (M := rcM) (r := slotR h j) (fun _ => rfl)) $$ H
  iintro H
  iapply Hk
  isplitl [Hz] <;> iassumption

/-- A load of a part held at some contents: what it reads does not matter. -/
theorem wp_peek {α : Type} {Q : α → sProp 𝕄} {s : Shape} {M : Memref sig .tc .vmem s .bf16} {r : Rect s} (hr : ∀ a, r.stride a = 1)
    {hl : M.view.LoadsAt r.toLoadRect} {k : (r.shape.Idx → Elt F .bf16) → Prog (TpuEff nD τ sig (Elt F) Λ₀ .tc) α} :
    free c (M.slice r hr)
      ⊢ iprop((∀ X, free c (M.slice r hr) -∗ wp frame (wpE (defs₀ (F := F)) 𝒱₀ (c : Thread nD τ) none) Set.univ (k X) Q)
          -∗ wp frame (wpE (defs₀ (F := F)) 𝒱₀ (c : Thread nD τ) none) Set.univ (.op (.load M r.toLoadRect hl) k) Q) := by
  unfold free
  iintro ⟨%X, H⟩ Hk
  iapply (wp_read c hr) $$ H
  iintro H
  iapply Hk
  iexists X; iexact H

/-- A store of `w` to a part held at some contents leaves it at `w`. -/
theorem wp_write {α : Type} {Q : α → sProp 𝕄} {s : Shape} {M : Memref sig .tc .vmem s .bf16} {r : Rect s} (hr : ∀ a, r.stride a = 1)
    {w : Vec F r.shape .bf16} {hx : (M.access r).Stores Finset.univ} {hm : (Finset.univ : Finset r.shape.Idx) = Finset.univ ∨ ∀ a, r.stride a = 1}
    {k : PUnit → Prog (TpuEff nD τ sig (Elt F) Λ₀ .tc) α} :
    free c (M.slice r hr)
      ⊢ iprop((ownsF c (M.slice r hr) fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  have hset : (M.access r).setOn Finset.univ = (M.slice r hr).view.set := View.setOn_univ _
  unfold free ownsF owns
  iintro ⟨%X, %f, -, H⟩ Hk
  rw [← hset]
  iapply (wp_store 𝒱₀ (c : Thread nD τ) none Set.univ (m := M) (r := r) (Mk := Finset.univ) (Finset.Subset.refl _)) $$ H
  iintro H
  iapply Hk
  iexists (M.access r).write (Elt F) f w Finset.univ
  isplitr; · ipureintro; exact View.read_write_univ _ _
  iexact H

/-! ## The finished chunk's place -/

/-- Two names of one place in the result. -/
theorem place_eq {o o' : Fin 2 → ℕ} (e : o = o') (hi : ∀ a, o a + S128x256.size a ≤ S512x512.size a) (hi' : ∀ a, o' a + S128x256.size a ≤ S512x512.size a) :
    oM.slice (Rect.unit (s := S512x512) o S128x256.size hi) (fun _ => rfl) = oM.slice (Rect.unit (s := S512x512) o' S128x256.size hi') (fun _ => rfl) := by
  subst e; rfl
theorem place₀ : oM.slice (Rect.unit (s := S512x512) (k0_off3 c) S128x256.size (k0_off3_inb c)) (fun _ => rfl) = outM 0 c :=
  place_eq ((k0_off3_eq c).trans (k0_off4_eq c).symm) _ _
theorem place₁ : oM.slice (Rect.unit (s := S512x512) (k0_off5 c) S128x256.size (k0_off5_inb c)) (fun _ => rfl) = outM 1 c :=
  place_eq ((k0_off5_eq c).trans (k0_off6_eq c).symm) _ _

/-- A chunk held whole is the chunk held at its three shares. -/
theorem shares (M : Memref sig .tc .vmem S128x256 .bf16) (X : Vec F S128x256 .bf16) :
    ownsF c M fullShare X = iprop(ownsF c M (part 0) X ∗ ownsF c M (part 1) X ∗ ownsF c M (part 2) X) :=
  have h := (owns_share (Ix := Unit) (Name := ℕ) (U := UU) (Lvl := ℕ) (c : Thread nD τ) M (PosShare.mem_left_op_right fullShare) X).trans
    (sep_congr .rfl (owns_share (c : Thread nD τ) M (PosShare.mem_left_op_right fullShare.right) X))
  BI.Entails.antisymm h.1 h.2

/-- The finished chunk's half `h` is written at its place `P`, whatever was there, and held at the three shares. -/
theorem wp_finish {α : Type} {Q : α → sProp 𝕄} (h : Fin 2) {r : Rect S512x512} (hr : ∀ a, r.stride a = 1) (hs : r.shape = S128x256)
    {w : Vec F r.shape .bf16} (hM : ∀ (q : PosShare TreeShare), ownsF c (oM.slice r hr) q w = ownsF c (outM h c) q (chunk m c h))
    (hF : free (F := F) c (oM.slice r hr) = free c (outM h c))
    {hl : oM.view.LoadsAt r.toLoadRect} {hx : (oM.access r).Stores Finset.univ} {hm : (Finset.univ : Finset r.shape.Idx) = Finset.univ ∨ ∀ a, r.stride a = 1}
    {k : PUnit → Prog (TpuEff nD τ sig (Elt F) Λ₀ .tc) α} :
    free c (outM h c)
      ⊢ iprop((iprop(ownsF c (outM h c) (part 0) (chunk m c h) ∗ ownsF c (outM h c) (part 1) (chunk m c h) ∗ ownsF c (outM h c) (part 2) (chunk m c h))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load oM r.toLoadRect hl) fun _ => .op (.store oM r w Finset.univ hx hm) k) Q) := by
  rw [← hF]
  iintro H Hk
  iapply (wp_peek c hr) $$ H
  iintro %X H
  iapply (wp_write c hr) $$ H
  iintro H
  iapply Hk
  rw [hM, ← shares]
  exact .rfl

/-! ## Loads of the staged operands -/

/-- Device `c`'s staged operands. -/
def aHeld (c : Dev nD) : sProp 𝕄 := iprop(((c : Thread nD τ).loc cc0_stg0_0) ↦{fullShare} aStg m c)
def bHeld (c : Dev nD) : sProp 𝕄 := iprop(((c : Thread nD τ).loc cc0_stg1_0) ↦{fullShare} bStg m c)

theorem wp_rows {α : Type} {Q : α → sProp 𝕄} (j : Fin 3) {hl : aM.view.LoadsAt (Rect.unit (s := S512x256) (k0_off1 c (BitVec.ofNat 32 (1 + j.val))) S128x256.size (k0_off1_inb c j)).toLoadRect}
    {k : (S128x256.Idx → Elt F .bf16) → Prog (TpuEff nD τ sig (Elt F) Λ₀ .tc) α} :
    aHeld m c
      ⊢ iprop((aHeld m c -∗ wp frame (wpE (defs₀ (F := F)) 𝒱₀ (c : Thread nD τ) none) Set.univ (k (aPiece m c j)) Q)
          -∗ wp frame (wpE (defs₀ (F := F)) 𝒱₀ (c : Thread nD τ) none) Set.univ
            (.op (.load aM (Rect.unit (s := S512x256) (k0_off1 c (BitVec.ofNat 32 (1 + j.val))) S128x256.size (k0_off1_inb c j)).toLoadRect hl) k) Q) := by
  unfold aHeld
  iintro H Hk
  iapply (wp_load 𝒱₀ (c : Thread nD τ) none Set.univ (m := aM) (Finset.subset_univ _)) $$ H
  iexact Hk

theorem wp_own_rows {α : Type} {Q : α → sProp 𝕄} {hl : aM.view.LoadsAt (Rect.unit (s := S512x256) (k0_off2 c) S128x256.size (k0_off2_inb c)).toLoadRect}
    {k : (S128x256.Idx → Elt F .bf16) → Prog (TpuEff nD τ sig (Elt F) Λ₀ .tc) α} :
    aHeld m c
      ⊢ iprop((aHeld m c -∗ wp frame (wpE (defs₀ (F := F)) 𝒱₀ (c : Thread nD τ) none) Set.univ (k (aOwn m c)) Q)
          -∗ wp frame (wpE (defs₀ (F := F)) 𝒱₀ (c : Thread nD τ) none) Set.univ
            (.op (.load aM (Rect.unit (s := S512x256) (k0_off2 c) S128x256.size (k0_off2_inb c)).toLoadRect hl) k) Q) := by
  unfold aHeld
  iintro H Hk
  iapply (wp_load 𝒱₀ (c : Thread nD τ) none Set.univ (m := aM) (Finset.subset_univ _)) $$ H
  iexact Hk

theorem wp_columns {α : Type} {Q : α → sProp 𝕄} {hl : bM.view.LoadsAt (Rect.unit (s := S256x512) ![0, 0] S256x512.size inb_S256x512_S256x512_0_0).toLoadRect}
    {k : (S256x512.Idx → Elt F .bf16) → Prog (TpuEff nD τ sig (Elt F) Λ₀ .tc) α} :
    bHeld m c
      ⊢ iprop((bHeld m c -∗ wp frame (wpE (defs₀ (F := F)) 𝒱₀ (c : Thread nD τ) none) Set.univ (k (bStg m c)) Q)
          -∗ wp frame (wpE (defs₀ (F := F)) 𝒱₀ (c : Thread nD τ) none) Set.univ
            (.op (.load bM (Rect.unit (s := S256x512) ![0, 0] S256x512.size inb_S256x512_S256x512_0_0).toLoadRect hl) k) Q) := by
  have hz : (![0, 0] : Fin 2 → ℕ) = fun _ => 0 := funext fun a => by fin_cases a <;> rfl
  have hread : bM.view.readAt (Elt F) (Rect.unit (s := S256x512) ![0, 0] S256x512.size inb_S256x512_S256x512_0_0).toLoadRect (bStg m c) = bStg m c :=
    Memref.readAt_unit_zero (Elt F) cc0_stg1_0 hz _ _
  unfold bHeld
  iintro H Hk
  iapply (wp_load 𝒱₀ (c : Thread nD τ) none Set.univ (m := bM) (Finset.subset_univ _)) $$ H
  rw [hread]
  iexact Hk

end

end Cert.KernelIdeal.Mesh

end
-- ==== Proof.KernelIdeal.Parts.lean ====
/-
A buffer and its parts: a staging or landing buffer is its six slots, a result is the eight half chunks, and parts held
at contents of their own make up the whole at the contents glued together.
-/
module

public import proofs.«01_k».proof.Proof.KernelIdeal.Steps

@[expose] public section

noncomputable section

namespace Cert.KernelIdeal.Mesh

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Gluing -/

section Glue
variable {T : Type} [Fintype T] [DecidableEq T] {s : Shape} {r : T → Rect s}

/-- The contents that are `Y t` on part `t`. -/
def glue (Y : ∀ t, (r t).shape.Idx → Elt F .bf16) : s.Idx → Elt F .bf16 :=
  Function.extend (fun p : (t : T) × (r t).shape.Idx => (r p.1).emb p.2) (fun p => Y p.1 p.2) (fun _ => (Elt.nonempty F .bf16).some)

/-- Read at a place of part `t`, they are `Y t` there. -/
theorem glue_at (hd : ∀ t t', t ≠ t' → Disjoint (r t).set (r t').set) (Y : ∀ t, (r t).shape.Idx → Elt F .bf16) (t : T) (x : (r t).shape.Idx) :
    glue Y ((r t).emb x) = Y t x := by
  have hinj : Function.Injective (fun p : (t : T) × (r t).shape.Idx => (r p.1).emb p.2) := by
    rintro ⟨t, x⟩ ⟨t', x'⟩ h
    have hmem (t : T) (x : (r t).shape.Idx) : (r t).emb x ∈ (r t).set := by
      rw [← Rect.map_emb_univ]; exact Finset.mem_map_of_mem _ (Finset.mem_univ x)
    have ht : t = t' := by
      by_contra hne
      have h' : (r t).emb x = (r t').emb x' := h
      exact Finset.disjoint_left.mp (hd t t' hne) (hmem t x) (h' ▸ hmem t' x')
    subst ht
    have hx : x = x' := (r t).emb.injective h
    rw [hx]
  exact hinj.extend_apply (fun p => Y p.1 p.2) _ ⟨t, x⟩

variable (c : Dev nD) (M : Memref sig .tc .vmem s .bf16) (hr : ∀ t a, (r t).stride a = 1)
  (hd : ∀ t t', t ≠ t' → Disjoint (r t).set (r t').set)
  (hcov : (Finset.univ : Finset T).biUnion (fun t => (r t).set) = Finset.univ)
include hd hcov

/-- A buffer held at some contents is every part of it held at some contents, -/
theorem free_parts : free c M ⊢ bigSep Finset.univ fun t => free (F := F) c (M.slice (r t) (hr t)) := by
  unfold free
  iintro ⟨%X, H⟩
  ihave H := (show ownsF c M fullShare X ⊢ bigSep Finset.univ fun t => ownsF c (M.slice (r t) (hr t)) fullShare (fun j => X ((r t).emb j))
    from owns_rects (c : Thread nD τ) M fullShare r hr hd hcov X) $$ H
  iapply (show (bigSep Finset.univ fun t => ownsF c (M.slice (r t) (hr t)) fullShare (fun j => X ((r t).emb j)))
      ⊢ bigSep Finset.univ fun t => iprop(∃ X, ownsF (F := F) c (M.slice (r t) (hr t)) fullShare X)
    from bigSep_mono fun t _ => exists_intro (Φ := fun X => ownsF (F := F) c (M.slice (r t) (hr t)) fullShare X) _) $$ H

/-- and its parts held at contents of their own are the buffer at those, glued. -/
theorem parts_glue (Y : ∀ t, (r t).shape.Idx → Elt F .bf16) :
    (bigSep Finset.univ fun t => ownsF c (M.slice (r t) (hr t)) fullShare (Y t)) ⊢ ownsF c M fullShare (glue Y) := by
  refine BIBase.Entails.trans (Entails.of_eq (bigSep_congr fun t _ => ?_)) (owns_of_rects (c : Thread nD τ) M fullShare r hr hd hcov (glue Y))
  exact congrArg (ownsF c (M.slice (r t) (hr t)) fullShare) (funext fun x => (glue_at hd Y t x).symm)

end Glue

/-! ## One resource per half and piece -/

/-- One resource for each of the six pairs of a half and a piece. -/
def six (Φ : Fin 2 → Fin 3 → sProp 𝕄) : sProp 𝕄 := iprop(Φ 0 0 ∗ Φ 0 1 ∗ Φ 0 2 ∗ Φ 1 0 ∗ Φ 1 1 ∗ Φ 1 2)

omit [FloatOps F] in
theorem six_eq (Φ : Fin 2 → Fin 3 → sProp 𝕄) : (bigSep Finset.univ fun p : Fin 2 × Fin 3 => Φ p.1 p.2) = six Φ := by
  rw [bigSep_univ_eq_bigSepL [(0, 0), (0, 1), (0, 2), (1, 0), (1, 1), (1, 2)] (by decide) (by decide)]
  simp only [bigSepL_cons_cons, bigSepL_singleton]
  rfl
omit [FloatOps F] in
theorem six_sep (Φ Ψ : Fin 2 → Fin 3 → sProp 𝕄) : six (fun h j => iprop(Φ h j ∗ Ψ h j)) = iprop(six Φ ∗ six Ψ) := by
  rw [← six_eq, ← six_eq, ← six_eq, ← bigSep_sep']
omit [FloatOps F] in
theorem six_mono {Φ Ψ : Fin 2 → Fin 3 → sProp 𝕄} (h : ∀ x j, Φ x j ⊢ Ψ x j) : six Φ ⊢ six Ψ := by
  rw [← six_eq, ← six_eq]; exact bigSep_mono fun p _ => h p.1 p.2
omit [FloatOps F] in
/-- A resource per transfer cell, array by array. -/
theorem cells_eq (Φ : DIx → sProp 𝕄) : bigSep Finset.univ Φ
    = iprop(six (fun h j => Φ (0, h, j)) ∗ six (fun h j => Φ (1, h, j)) ∗ six (fun h j => Φ (2, h, j)) ∗ six (fun h j => Φ (3, h, j))) := by
  rw [bigSep_univ_prod, bigSep_univ_eq_bigSepL [0, 1, 2, 3] (by decide) (by decide)]
  simp only [bigSepL_cons_cons, bigSepL_singleton, ← six_eq]
  rfl

/-! ## Slots -/

theorem slots_disjoint : ∀ t t' : Fin 2 × Fin 3, t ≠ t' → Disjoint (slotR t.1 t.2).set (slotR t'.1 t'.2).set := by
  intro t t' hne
  refine Finset.disjoint_left.mpr fun i hi hi' => hne ?_
  have h := Rect.mem_set_unit.mp hi
  have h' := Rect.mem_set_unit.mp hi'
  have a : t.1.val ≤ (i 0).val ∧ (i 0).val < t.1.val + 1 := h 0
  have a' : t'.1.val ≤ (i 0).val ∧ (i 0).val < t'.1.val + 1 := h' 0
  have b : t.2.val ≤ (i 1).val ∧ (i 1).val < t.2.val + 1 := h 1
  have b' : t'.2.val ≤ (i 1).val ∧ (i 1).val < t'.2.val + 1 := h' 1
  exact Prod.ext (Fin.ext (by omega)) (Fin.ext (by omega))

theorem slots_cover : (Finset.univ : Finset (Fin 2 × Fin 3)).biUnion (fun t => (slotR t.1 t.2).set) = Finset.univ := by
  refine Finset.eq_univ_of_forall fun i => Finset.mem_biUnion.mpr ⟨(i 0, i 1), Finset.mem_univ _, Rect.mem_set_unit.mpr fun a => ?_⟩
  have h2 : (i 2).val < 128 := (i 2).isLt
  have h3 : (i 3).val < 256 := (i 3).isLt
  fin_cases a
  · exact ⟨le_refl _, Nat.lt_succ_self _⟩
  · exact ⟨le_refl _, Nat.lt_succ_self _⟩
  · exact ⟨Nat.zero_le _, by show (i 2).val < 0 + 128; omega⟩
  · exact ⟨Nat.zero_le _, by show (i 3).val < 0 + 256; omega⟩

/-- A staging or landing buffer at some contents is its six slots at some contents, -/
theorem slots_split (c : Dev nD) (M : Memref sig .tc .vmem S2x3x128x256 .bf16) : free (F := F) c M ⊢ six (fun h j => free c (slotM M h j)) := by
  rw [← six_eq]
  exact free_parts c M (r := fun t : Fin 2 × Fin 3 => slotR t.1 t.2) (fun _ _ => rfl) slots_disjoint slots_cover
/-- and the slots at whatever contents are the buffer at some. -/
theorem slots_join (c : Dev nD) (M : Memref sig .tc .vmem S2x3x128x256 .bf16) (Y : Fin 2 → Fin 3 → Vec F S1x1x128x256 .bf16) :
    six (fun h j => ownsF c (slotM M h j) fullShare (Y h j)) ⊢ free (F := F) c M := by
  rw [← six_eq]
  exact (parts_glue c M (r := fun t : Fin 2 × Fin 3 => slotR t.1 t.2) (fun _ _ => rfl) slots_disjoint slots_cover (fun t => Y t.1 t.2)).trans
    (exists_intro (Φ := fun X => ownsF (F := F) c M fullShare X) _)

/-! ## The result's half chunks -/

theorem chunks_disjoint : ∀ t t' : Fin 2 × Dev nD, t ≠ t' → Disjoint (outR t.1 t.2).set (outR t'.1 t'.2).set := by
  intro t t' hne
  refine Finset.disjoint_left.mpr fun i hi hi' => hne ?_
  have h := Rect.mem_set_unit.mp hi
  have h' := Rect.mem_set_unit.mp hi'
  rw [outOff_eq] at h h'
  have a : 128 * t.2.val ≤ (i 0).val ∧ (i 0).val < 128 * t.2.val + 128 := h 0
  have a' : 128 * t'.2.val ≤ (i 0).val ∧ (i 0).val < 128 * t'.2.val + 128 := h' 0
  have b : 256 * t.1.val ≤ (i 1).val ∧ (i 1).val < 256 * t.1.val + 256 := h 1
  have b' : 256 * t'.1.val ≤ (i 1).val ∧ (i 1).val < 256 * t'.1.val + 256 := h' 1
  exact Prod.ext (Fin.ext (by omega)) (Fin.ext (by omega))

theorem chunks_cover : (Finset.univ : Finset (Fin 2 × Dev nD)).biUnion (fun t => (outR t.1 t.2).set) = Finset.univ := by
  refine Finset.eq_univ_of_forall fun i => ?_
  have h0 : (i 0).val < 512 := (i 0).isLt
  have h1 : (i 1).val < 512 := (i 1).isLt
  refine Finset.mem_biUnion.mpr ⟨(⟨(i 1).val / 256, by omega⟩, ⟨(i 0).val / 128, by show _ < 4; omega⟩), Finset.mem_univ _, Rect.mem_set_unit.mpr ?_⟩
  rw [outOff_eq]
  intro a
  fin_cases a
  · show 128 * ((i 0).val / 128) ≤ (i 0).val ∧ (i 0).val < 128 * ((i 0).val / 128) + 128; omega
  · show 256 * ((i 1).val / 256) ≤ (i 1).val ∧ (i 1).val < 256 * ((i 1).val / 256) + 256; omega

theorem two_eq (Φ : Fin 2 → sProp 𝕄) : bigSep Finset.univ Φ = iprop(Φ 0 ∗ Φ 1) := by
  rw [bigSep_univ_eq_bigSepL [0, 1] (by decide) (by decide), bigSepL_cons_cons, bigSepL_singleton]
  rfl
/-- Device `c` and the three it names are all there are. -/
theorem four_eq (c : Dev nD) (Φ : Dev nD → sProp 𝕄) : bigSep Finset.univ Φ = iprop(Φ c ∗ Φ (sh c 0) ∗ Φ (sh c 1) ∗ Φ (sh c 2)) := by
  rw [bigSep_univ_eq_bigSepL [c, sh c 0, sh c 1, sh c 2] (by revert c; decide) (by revert c; decide)]
  simp only [bigSepL_cons_cons, bigSepL_singleton]
  rfl
theorem four_us_eq (c : Dev nD) (Φ : Dev nD → sProp 𝕄) : bigSep Finset.univ Φ = iprop(Φ c ∗ Φ (us c 0) ∗ Φ (us c 1) ∗ Φ (us c 2)) := by
  rw [bigSep_univ_eq_bigSepL [c, us c 0, us c 1, us c 2] (by revert c; decide) (by revert c; decide)]
  simp only [bigSepL_cons_cons, bigSepL_singleton]
  rfl

/-- A result at some contents is its own two half chunks and the other devices' six, -/
theorem chunks_split (c : Dev nD) : free (F := F) c oM ⊢ iprop((free c (outM 0 c) ∗ free c (outM 1 c)) ∗ six (fun h j => free c (outM h (sh c j)))) := by
  refine (free_parts c oM (r := fun t : Fin 2 × Dev nD => outR t.1 t.2) (fun _ _ => rfl) chunks_disjoint chunks_cover).trans ?_
  rw [bigSep_univ_prod, two_eq]
  rw [four_eq c, four_eq c]
  unfold six
  iintro ⟨⟨A, A0, A1, A2⟩, B, B0, B1, B2⟩
  isplitl [A B]; · isplitl [A] <;> iassumption
  isplitl [A0]; · iexact A0
  isplitl [A1]; · iexact A1
  isplitl [A2]; · iexact A2
  isplitl [B0]; · iexact B0
  isplitl [B1]; · iexact B1
  iexact B2

/-- The finished result: every half chunk in its place. -/
def result : Vec F S512x512 .bf16 := glue (r := fun t : Fin 2 × Dev nD => outR t.1 t.2) (fun t => chunk m t.2 t.1)
theorem result_at (h : Fin 2) (d : Dev nD) (x : S128x256.Idx) : result m ((outR h d).emb x) = chunk m d h x :=
  glue_at (r := fun t : Fin 2 × Dev nD => outR t.1 t.2) chunks_disjoint (fun t => chunk m t.2 t.1) (h, d) x

/-- and the eight finished half chunks are the finished result. -/
theorem chunks_join (c : Dev nD) :
    iprop((ownsF c (outM 0 c) fullShare (chunk m c 0) ∗ ownsF c (outM 1 c) fullShare (chunk m c 1))
        ∗ six (fun h j => ownsF c (outM h (us c j)) fullShare (chunk m (us c j) h))) ⊢ ownsF c oM fullShare (result m) := by
  refine BIBase.Entails.trans ?_ (parts_glue c oM (r := fun t : Fin 2 × Dev nD => outR t.1 t.2) (fun _ _ => rfl) chunks_disjoint chunks_cover (fun t => chunk m t.2 t.1))
  rw [bigSep_univ_prod, two_eq]
  rw [four_us_eq c, four_us_eq c]
  unfold six
  iintro ⟨⟨A, B⟩, A0, A1, A2, B0, B1, B2⟩
  isplitl [A A0 A1 A2]
  · isplitl [A]; · iexact A
    isplitl [A0]; · iexact A0
    isplitl [A1] <;> iassumption
  isplitl [B]; · iexact B
  isplitl [B0]; · iexact B0
  isplitl [B1] <;> iassumption

end Cert.KernelIdeal.Mesh

end
-- ==== Proof.KernelIdeal.Body.lean ====
/-
The kernel's run on one device, effect by effect, from what the device holds at the start to what it holds at the end.
-/
module

public import proofs.«01_k».proof.Proof.KernelIdeal.Parts

@[expose] public section

noncomputable section

namespace Cert.KernelIdeal.Mesh

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Tgt → ℕ) (c : Dev nD)

/-- What device `c` starts its run with. -/
def runPre : sProp 𝕄 :=
  iprop(records m K ∗ owesA c (debts c) ∗ (atPos ER (barCell c) 0 ∅ 0 ∗ cred (tallyAt (barCell c) () 3))
    ∗ (dutyTok ER (barCell (sh c 0)) 0 2 ∗ dutyTok ER (barCell (sh c 1)) 0 1 ∗ dutyTok ER (barCell (sh c 2)) 0 0)
    ∗ six (fare c 0 1) ∗ six (fare c 2 3) ∗ six (fun h j => waiter c (1, h, j)) ∗ six (fun h j => waiter c (3, h, j))
    ∗ (aHeld m c ∗ bHeld m c) ∗ six (fun h j => free c (slotM stM h j)) ∗ six (fun h j => free c (slotM rcM h j))
    ∗ (free c (outM 0 c) ∗ free c (outM 1 c)) ∗ six (fun h j => free c (outM h (sh c j))))

/-- What it ends it with. -/
def runPost : sProp 𝕄 :=
  iprop(owesA c [] ∗ semVal (barCell c) 0 ∗ (aHeld m c ∗ bHeld m c)
    ∗ six (fun h j => settled m c (0, h, j)) ∗ six (fun h j => settled m c (1, h, j)) ∗ six (fun h j => settled m c (2, h, j)) ∗ six (fun h j => settled m c (3, h, j)))

set_option maxHeartbeats 4000000 in
/-- The kernel's body on device `c` runs from the one to the other: one rule per effect, in the program's order. -/
theorem body_run (Kt : PUnit → sProp 𝕄) :
    runPre m K c ⊢ iprop((runPost m c -∗ Kt ⟨⟩) -∗ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scratch4 cc0_scratch5) Kt) := by
  rw [cc0_body_eq_skeleton]; unfold cc0_body_skel
  unfold runPre six
  iintro ⟨#HR, HO, ⟨HatB, HcB⟩, ⟨T0, T1, T2⟩, ⟨F00, F01, F02, F10, F11, F12⟩, ⟨G00, G01, G02, G10, G11, G12⟩,
    ⟨V00, V01, V02, V10, V11, V12⟩, ⟨Y00, Y01, Y02, Y10, Y11, Y12⟩, ⟨HA, HB⟩, ⟨S00, S01, S02, S10, S11, S12⟩,
    ⟨R00, R01, R02, R10, R11, R12⟩, ⟨O0, O1⟩, ⟨P00, P01, P02, P10, P11, P12⟩⟩ Hk
  rw [wp_bind, k0_part1_eq_skeleton]; unfold k0_part1_skel
  simp only [semSignalWord, semWaitWord, Prog.lift, Prog.bind_op, Prog.bind_ret, Prog.pure_eq_ret, wp_deviceId]
  simp only [dev1_eq c, dev2_eq c]
  iapply (wp_meet m K c (sh c 0) 2 (by revert c; decide) _) $$ HR HO T0 R02 R12 P00 P10
  iintro HO
  iapply (wp_meet m K c (sh c 1) 1 (by revert c; decide) _) $$ HR HO T1 R01 R11 P01 P11
  iintro HO
  rw [wp_ret]; imodintro
  rw [wp_bind, k0_part2_eq_skeleton]; unfold k0_part2_skel
  simp only [semSignalWord, semWaitWord, Prog.lift, Prog.bind_op, Prog.bind_ret, Prog.pure_eq_ret]
  simp only [dev3_eq c]
  iapply (wp_meet m K c (sh c 2) 0 (by revert c; decide) _) $$ HR HO T2 R00 R10 P02 P12
  iintro HO
  iapply (wp_columns m c) $$ HB
  iintro HB
  iapply (wp_rows m c 1) $$ HA
  iintro HA
  iapply (wp_peek c (M := stM) (r := slotR 0 1) (fun _ => rfl)) $$ S01
  iintro %X S01
  iapply (wp_write c (M := stM) (r := slotR 0 1) (fun _ => rfl) (w := piece m c 0 1)) $$ S01
  iintro S01
  rw [wp_ret]; imodintro
  rw [wp_bind, k0_part3_eq_skeleton]; unfold k0_part3_skel
  simp only [semSignalWord, semWaitWord, Prog.lift, Prog.bind_op, Prog.bind_ret, Prog.pure_eq_ret]
  iapply (wp_rows m c 0) $$ HA; iintro HA
  iapply (wp_peek c (M := stM) (r := slotR 0 0) (fun _ => rfl)) $$ S00; iintro %X S00
  iapply (wp_write c (M := stM) (r := slotR 0 0) (fun _ => rfl) (w := piece m c 0 0)) $$ S00; iintro S00
  iapply (wp_rows m c 2) $$ HA; iintro HA
  rw [wp_ret]; imodintro
  rw [wp_bind, k0_part4_eq_skeleton]; unfold k0_part4_skel
  simp only [semSignalWord, semWaitWord, Prog.lift, Prog.bind_op, Prog.bind_ret, Prog.pure_eq_ret]
  iapply (wp_peek c (M := stM) (r := slotR 0 2) (fun _ => rfl)) $$ S02; iintro %X S02
  iapply (wp_write c (M := stM) (r := slotR 0 2) (fun _ => rfl) (w := piece m c 0 2)) $$ S02; iintro S02
  iapply (wp_gather m K c (debts₁ c) (debts₁_above c)) $$ HR HO HatB HcB
  unfold barPay
  iintro ⟨HO, Hbar, ⟨D00, D10, E00, E10⟩, ⟨D01, D11, E01, E11⟩, ⟨D02, D12, E02, E12⟩⟩
  iapply (wp_piece m K c _ 0 1 (dev4_eq c) _) $$ HR HO F01 S01 D01; iintro ⟨HO, F01⟩
  rw [wp_ret]; imodintro
  rw [wp_bind, k0_part5_eq_skeleton]; unfold k0_part5_skel
  simp only [semSignalWord, semWaitWord, Prog.lift, Prog.bind_op, Prog.bind_ret, Prog.pure_eq_ret]
  iapply (wp_piece m K c _ 0 0 (dev5_eq c) _) $$ HR HO F00 S00 D00; iintro ⟨HO, F00⟩
  rw [wp_ret]; imodintro
  rw [wp_bind, k0_part6_eq_skeleton]; unfold k0_part6_skel
  simp only [semSignalWord, semWaitWord, Prog.lift, Prog.bind_op, Prog.bind_ret, Prog.pure_eq_ret]
  iapply (wp_piece m K c _ 0 2 (dev6_eq c) _) $$ HR HO F02 S02 D02; iintro ⟨HO, F02⟩
  iapply (wp_rows m c 1) $$ HA; iintro HA
  iapply (wp_peek c (M := stM) (r := slotR 1 1) (fun _ => rfl)) $$ S11; iintro %X S11
  iapply (wp_write c (M := stM) (r := slotR 1 1) (fun _ => rfl) (w := piece m c 1 1)) $$ S11; iintro S11
  rw [wp_ret]; imodintro
  rw [wp_bind, k0_part7_eq_skeleton]; unfold k0_part7_skel
  simp only [semSignalWord, semWaitWord, Prog.lift, Prog.bind_op, Prog.bind_ret, Prog.pure_eq_ret]
  iapply (wp_rows m c 0) $$ HA; iintro HA
  iapply (wp_peek c (M := stM) (r := slotR 1 0) (fun _ => rfl)) $$ S10; iintro %X S10
  iapply (wp_write c (M := stM) (r := slotR 1 0) (fun _ => rfl) (w := piece m c 1 0)) $$ S10; iintro S10
  iapply (wp_rows m c 2) $$ HA; iintro HA
  rw [wp_ret]; imodintro
  rw [wp_bind, k0_part8_eq_skeleton]; unfold k0_part8_skel
  simp only [semSignalWord, semWaitWord, Prog.lift, Prog.bind_op, Prog.bind_ret, Prog.pure_eq_ret]
  iapply (wp_peek c (M := stM) (r := slotR 1 2) (fun _ => rfl)) $$ S12; iintro %X S12
  iapply (wp_write c (M := stM) (r := slotR 1 2) (fun _ => rfl) (w := piece m c 1 2)) $$ S12; iintro S12
  iapply (wp_piece m K c _ 1 1 (dev7_eq c) _) $$ HR HO F11 S11 D11; iintro ⟨HO, F11⟩
  rw [wp_ret]; imodintro
  rw [wp_bind, k0_part9_eq_skeleton]; unfold k0_part9_skel
  simp only [semSignalWord, semWaitWord, Prog.lift, Prog.bind_op, Prog.bind_ret, Prog.pure_eq_ret]
  iapply (wp_piece m K c _ 1 0 (dev8_eq c) _) $$ HR HO F10 S10 D10; iintro ⟨HO, F10⟩
  rw [wp_ret]; imodintro
  rw [wp_bind, k0_part10_eq_skeleton]; unfold k0_part10_skel
  simp only [semSignalWord, semWaitWord, Prog.lift, Prog.bind_op, Prog.bind_ret, Prog.pure_eq_ret]
  iapply (wp_piece m K c _ 1 2 (dev9_eq c) _) $$ HR HO F12 S12 D12; iintro ⟨HO, F12⟩
  iapply (wp_own_rows m c) $$ HA; iintro HA
  iapply (wp_await m K c (1, 0, 0) (dst := slotQ rcM 0 0) (debts₂ c) (debts₂_above c) rfl) $$ HR HO V00; iintro ⟨HO, V00⟩
  iapply (wp_landed m c 0 0) $$ V00; iintro V00
  rw [wp_ret]; imodintro
  rw [wp_bind, k0_part11_eq_skeleton]; unfold k0_part11_skel
  simp only [semSignalWord, semWaitWord, Prog.lift, Prog.bind_op, Prog.bind_ret, Prog.pure_eq_ret]
  iapply (wp_await m K c (1, 0, 1) (dst := slotQ rcM 0 1) (debts₂ c) (debts₂_above c) rfl) $$ HR HO V01; iintro ⟨HO, V01⟩
  iapply (wp_landed m c 0 1) $$ V01; iintro V01
  iapply (wp_await m K c (1, 0, 2) (dst := slotQ rcM 0 2) (debts₂ c) (debts₂_above c) rfl) $$ HR HO V02; iintro ⟨HO, V02⟩
  iapply (wp_landed m c 0 2) $$ V02; iintro V02
  rw [wp_ret]; imodintro
  rw [wp_bind, k0_part12_eq_skeleton]; unfold k0_part12_skel
  simp only [semSignalWord, semWaitWord, Prog.lift, Prog.bind_op, Prog.bind_ret, Prog.pure_eq_ret]
  iapply (wp_finish m c 0 (r := Rect.unit (s := S512x512) (k0_off3 c) S128x256.size (k0_off3_inb c)) (fun _ => rfl) rfl (w := chunk m c 0)
    (fun q => congrArg (fun M => ownsF c M q (chunk m c 0)) (place₀ c)) (congrArg (free c) (place₀ c))) $$ O0; iintro ⟨C00, C01, C02⟩
  iapply (wp_chunk m K c _ 0 1 (dev10_eq c) _) $$ HR HO G01 C01 E01; iintro ⟨HO, G01⟩
  rw [wp_ret]; imodintro
  rw [wp_bind, k0_part13_eq_skeleton]; unfold k0_part13_skel
  simp only [semSignalWord, semWaitWord, Prog.lift, Prog.bind_op, Prog.bind_ret, Prog.pure_eq_ret]
  iapply (wp_chunk m K c _ 0 0 (dev11_eq c) _) $$ HR HO G00 C00 E00; iintro ⟨HO, G00⟩
  rw [wp_ret]; imodintro
  rw [wp_bind, k0_part14_eq_skeleton]; unfold k0_part14_skel
  simp only [semSignalWord, semWaitWord, Prog.lift, Prog.bind_op, Prog.bind_ret, Prog.pure_eq_ret]
  iapply (wp_chunk m K c _ 0 2 (dev12_eq c) _) $$ HR HO G02 C02 E02; iintro ⟨HO, G02⟩
  iapply (wp_await m K c (1, 1, 0) (dst := slotQ rcM 1 0) (debts₃ c) (debts₃_above c) rfl) $$ HR HO V10; iintro ⟨HO, V10⟩
  iapply (wp_landed m c 1 0) $$ V10; iintro V10
  rw [wp_ret]; imodintro
  rw [wp_bind, k0_part15_eq_skeleton]; unfold k0_part15_skel
  simp only [semSignalWord, semWaitWord, Prog.lift, Prog.bind_op, Prog.bind_ret, Prog.pure_eq_ret]
  iapply (wp_await m K c (1, 1, 1) (dst := slotQ rcM 1 1) (debts₃ c) (debts₃_above c) rfl) $$ HR HO V11; iintro ⟨HO, V11⟩
  iapply (wp_landed m c 1 1) $$ V11; iintro V11
  iapply (wp_await m K c (1, 1, 2) (dst := slotQ rcM 1 2) (debts₃ c) (debts₃_above c) rfl) $$ HR HO V12; iintro ⟨HO, V12⟩
  iapply (wp_landed m c 1 2) $$ V12; iintro V12
  iapply (wp_finish m c 1 (r := Rect.unit (s := S512x512) (k0_off5 c) S128x256.size (k0_off5_inb c)) (fun _ => rfl) rfl (w := chunk m c 1)
    (fun q => congrArg (fun M => ownsF c M q (chunk m c 1)) (place₁ c)) (congrArg (free c) (place₁ c))) $$ O1; iintro ⟨C10, C11, C12⟩
  rw [wp_ret]; imodintro
  rw [wp_bind, k0_part16_eq_skeleton]; unfold k0_part16_skel
  simp only [semSignalWord, semWaitWord, Prog.lift, Prog.bind_op, Prog.bind_ret, Prog.pure_eq_ret]
  iapply (wp_chunk m K c _ 1 1 (dev13_eq c) _) $$ HR HO G11 C11 E11; iintro ⟨HO, G11⟩
  rw [wp_ret]; imodintro
  rw [wp_bind, k0_part17_eq_skeleton]; unfold k0_part17_skel
  simp only [semSignalWord, semWaitWord, Prog.lift, Prog.bind_op, Prog.bind_ret, Prog.pure_eq_ret]
  iapply (wp_chunk m K c _ 1 0 (dev14_eq c) _) $$ HR HO G10 C10 E10; iintro ⟨HO, G10⟩
  iapply (wp_chunk m K c _ 1 2 (dev15_eq c) _) $$ HR HO G12 C12 E12; iintro ⟨HO, G12⟩
  iapply (wp_await m K c (3, 0, 1) (dst := outM 0 c) [] (fun t ht => absurd ht List.not_mem_nil) rfl) $$ HR HO Y01; iintro ⟨HO, Y01⟩
  rw [wp_ret]; imodintro
  rw [wp_bind, k0_part18_eq_skeleton]; unfold k0_part18_skel
  simp only [semSignalWord, semWaitWord, Prog.lift, Prog.bind_op, Prog.bind_ret, Prog.pure_eq_ret]
  iapply (wp_await m K c (3, 0, 0) (dst := outM 0 c) [] (fun t ht => absurd ht List.not_mem_nil) rfl) $$ HR HO Y00; iintro ⟨HO, Y00⟩
  iapply (wp_await m K c (3, 0, 2) (dst := outM 0 c) [] (fun t ht => absurd ht List.not_mem_nil) rfl) $$ HR HO Y02; iintro ⟨HO, Y02⟩
  iapply (wp_await m K c (3, 1, 1) (dst := outM 1 c) [] (fun t ht => absurd ht List.not_mem_nil) rfl) $$ HR HO Y11; iintro ⟨HO, Y11⟩
  iapply (wp_await m K c (3, 1, 0) (dst := outM 1 c) [] (fun t ht => absurd ht List.not_mem_nil) rfl) $$ HR HO Y10; iintro ⟨HO, Y10⟩
  rw [wp_ret]; imodintro
  rw [wp_bind, k0_part19_eq_skeleton]; unfold k0_part19_skel
  simp only [semSignalWord, semWaitWord, Prog.lift, Prog.bind_op, Prog.bind_ret, Prog.pure_eq_ret]
  iapply (wp_await m K c (3, 1, 2) (dst := outM 1 c) [] (fun t ht => absurd ht List.not_mem_nil) rfl) $$ HR HO Y12; iintro ⟨HO, Y12⟩
  iapply (wp_await m K c (0, 0, 1) (dst := slotQ stM 0 1) [] (fun t ht => absurd ht List.not_mem_nil) rfl) $$ HR HO F01; iintro ⟨HO, F01⟩
  iapply (wp_await m K c (0, 0, 0) (dst := slotQ stM 0 0) [] (fun t ht => absurd ht List.not_mem_nil) rfl) $$ HR HO F00; iintro ⟨HO, F00⟩
  rw [wp_ret]; imodintro
  rw [wp_bind, k0_part20_eq_skeleton]; unfold k0_part20_skel
  simp only [semSignalWord, semWaitWord, Prog.lift, Prog.bind_op, Prog.bind_ret, Prog.pure_eq_ret]
  iapply (wp_await m K c (0, 0, 2) (dst := slotQ stM 0 2) [] (fun t ht => absurd ht List.not_mem_nil) rfl) $$ HR HO F02; iintro ⟨HO, F02⟩
  iapply (wp_await m K c (0, 1, 1) (dst := slotQ stM 1 1) [] (fun t ht => absurd ht List.not_mem_nil) rfl) $$ HR HO F11; iintro ⟨HO, F11⟩
  iapply (wp_await m K c (0, 1, 0) (dst := slotQ stM 1 0) [] (fun t ht => absurd ht List.not_mem_nil) rfl) $$ HR HO F10; iintro ⟨HO, F10⟩
  rw [wp_ret]; imodintro
  rw [wp_bind, k0_part21_eq_skeleton]; unfold k0_part21_skel
  simp only [semSignalWord, semWaitWord, Prog.lift, Prog.bind_op, Prog.bind_ret, Prog.pure_eq_ret]
  iapply (wp_await m K c (0, 1, 2) (dst := slotQ stM 1 2) [] (fun t ht => absurd ht List.not_mem_nil) rfl) $$ HR HO F12; iintro ⟨HO, F12⟩
  iapply (wp_await m K c (2, 0, 1) (dst := outM 0 c) [] (fun t ht => absurd ht List.not_mem_nil) rfl) $$ HR HO G01; iintro ⟨HO, G01⟩
  iapply (wp_await m K c (2, 0, 0) (dst := outM 0 c) [] (fun t ht => absurd ht List.not_mem_nil) rfl) $$ HR HO G00; iintro ⟨HO, G00⟩
  iapply (wp_await m K c (2, 0, 2) (dst := outM 0 c) [] (fun t ht => absurd ht List.not_mem_nil) rfl) $$ HR HO G02; iintro ⟨HO, G02⟩
  rw [wp_ret]; imodintro
  iapply (wp_await m K c (2, 1, 1) (dst := outM 1 c) [] (fun t ht => absurd ht List.not_mem_nil) rfl) $$ HR HO G11; iintro ⟨HO, G11⟩
  iapply (wp_await m K c (2, 1, 0) (dst := outM 1 c) [] (fun t ht => absurd ht List.not_mem_nil) rfl) $$ HR HO G10; iintro ⟨HO, G10⟩
  iapply (wp_await m K c (2, 1, 2) (dst := outM 1 c) [] (fun t ht => absurd ht List.not_mem_nil) rfl) $$ HR HO G12; iintro ⟨HO, G12⟩
  rw [wp_ret]; imodintro
  iapply Hk
  unfold runPost six
  isplitl [HO]; · iexact HO
  isplitl [Hbar]; · iexact Hbar
  isplitl [HA HB]; · isplitl [HA] <;> iassumption
  isplitl [F00 F01 F02 F10 F11 F12]
  · isplitl [F00]; · iexact F00
    isplitl [F01]; · iexact F01
    isplitl [F02]; · iexact F02
    isplitl [F10]; · iexact F10
    isplitl [F11]; · iexact F11
    iexact F12
  isplitl [V00 V01 V02 V10 V11 V12]
  · isplitl [V00]; · iexact V00
    isplitl [V01]; · iexact V01
    isplitl [V02]; · iexact V02
    isplitl [V10]; · iexact V10
    isplitl [V11]; · iexact V11
    iexact V12
  isplitl [G00 G01 G02 G10 G11 G12]
  · isplitl [G00]; · iexact G00
    isplitl [G01]; · iexact G01
    isplitl [G02]; · iexact G02
    isplitl [G10]; · iexact G10
    isplitl [G11]; · iexact G11
    iexact G12
  isplitl [Y00]; · iexact Y00
  isplitl [Y01]; · iexact Y01
  isplitl [Y02]; · iexact Y02
  isplitl [Y10]; · iexact Y10
  isplitl [Y11]; · iexact Y11
  iexact Y12

end Cert.KernelIdeal.Mesh

end
-- ==== Proof.KernelIdeal.Run.lean ====
/-
The whole run: every device's body put under the launch, the semaphores' records and duties dealt out to the devices, and
the state every run ends in.
-/
module

public import proofs.«01_k».proof.Proof.KernelIdeal.Body
public import Idealize.ShloMosaic.Lib.Pipeline.CollectiveSegs

@[expose] public section

noncomputable section

namespace Cert.KernelIdeal.Mesh

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-! ## Names and duties, dealt out -/

omit [FloatOps F] in
theorem option_eq (Φ : Option DIx → sProp 𝕄) : bigSep Finset.univ Φ = iprop(Φ none ∗ bigSep Finset.univ fun x => Φ (some x)) := by
  have h : (Finset.univ : Finset (Option DIx)) = insert none (Finset.univ.map Function.Embedding.some) := by
    ext o; cases o <;> simp
  rw [h, bigSep_insert (by simp), bigSep_map]
  rfl

omit [FloatOps F] in
theorem three_eq (Φ : Fin 3 → sProp 𝕄) : bigSep Finset.univ Φ = iprop(Φ 0 ∗ Φ 1 ∗ Φ 2) := by
  rw [bigSep_univ_eq_bigSepL [0, 1, 2] (by decide) (by decide)]; rfl

/-- A device's duty tokens by name: its barrier cell's three and each transfer cell's one. -/
abbrev Tok : Type := Fin 3 ⊕ DIx

omit [FloatOps F] in
theorem toks_eq (Φ : Tok → sProp 𝕄) : bigSep Finset.univ Φ = iprop((Φ (.inl 0) ∗ Φ (.inl 1) ∗ Φ (.inl 2))
    ∗ six (fun h j => Φ (.inr (0, h, j))) ∗ six (fun h j => Φ (.inr (1, h, j))) ∗ six (fun h j => Φ (.inr (2, h, j))) ∗ six (fun h j => Φ (.inr (3, h, j)))) := by
  rw [bigSep_univ_sum, cells_eq, three_eq]; rfl

def tokOf : Dev nD × Tok → GSem nD τ sig × ℕ × Duty
  | (c, .inl d) => (barCell c, 0, d)
  | (c, .inr x) => (dCell c x, 0, 0)
theorem tokOf_inj : Function.Injective tokOf := by
  rintro ⟨c, d | x⟩ ⟨c', d' | x'⟩ h
  · have h1 : c = c' := congrArg (fun g : GSem nD τ sig × ℕ × Duty => g.1.1.1) h
    have h2 : d = d' := congrArg (fun g : GSem nD τ sig × ℕ × Duty => g.2.2) h
    rw [h1, h2]
  · have := congrArg (fun g : GSem nD τ sig × ℕ × Duty => g.1.2) h; cases this
  · have := congrArg (fun g : GSem nD τ sig × ℕ × Duty => g.1.2) h; cases this
  · have h1 : c = c' := congrArg (fun g : GSem nD τ sig × ℕ × Duty => g.1.1.1) h
    have h2 : SemLoc.dma (dsem x) = SemLoc.dma (dsem x') := congrArg (fun g : GSem nD τ sig × ℕ × Duty => g.1.2) h
    rw [h1, dsem_inj (SemLoc.dma.inj h2)]

/-- Whose cell device `c`'s duty of that name is at: the device it signals, the one it transfers to, or itself. -/
def payAt : Dev nD × Tok → Dev nD × Tok
  | (c, .inl d) => (us c d, .inl d)
  | (c, .inr (k, h, j)) => (if k = 1 ∨ k = 3 then sh c j else c, .inr (k, h, j))
theorem payAt_bij : Function.Bijective payAt :=
  (Finite.injective_iff_bijective).mp (by
    rintro ⟨c, d | ⟨k, h, j⟩⟩ ⟨c', d' | ⟨k', h', j'⟩⟩ e
    · obtain ⟨e1, e2⟩ := Prod.mk.inj e
      cases e2
      rw [← sh_us c d, e1, sh_us]
    · cases (Prod.mk.inj e).2
    · cases (Prod.mk.inj e).2
    · obtain ⟨e1, e2⟩ := Prod.mk.inj e
      cases e2
      by_cases hk : k = 1 ∨ k = 3
      · rw [if_pos hk, if_pos hk] at e1
        rw [← us_sh c j, e1, us_sh]
      · rw [if_neg hk, if_neg hk] at e1
        rw [e1])

/-- The duty token of that name. -/
def tok (p : Dev nD × Tok) : sProp 𝕄 := dutyTok ER (tokOf p).1 (tokOf p).2.1 (tokOf p).2.2

/-- The tokens of each device's own cells are the tokens each device pays with. -/
theorem toks_dealt : (bigSep Finset.univ fun c : Dev nD => bigSep Finset.univ fun y : Tok => tok (F := F) (c, y))
    = bigSep Finset.univ fun c : Dev nD => bigSep Finset.univ fun y : Tok => tok (F := F) (payAt (c, y)) := by
  rw [← bigSep_univ_prod, ← bigSep_univ_prod (fun p : Dev nD × Tok => tok (F := F) (payAt p)), bigSep_univ_equiv (Equiv.ofBijective payAt payAt_bij)]
  rfl

/-! ## The launch's data -/

def osem (x : DIx) : SemLoc sig := .dma (dsem x)

/-- What the launch makes of the records and duties for device `c`. -/
def dealt (c : Dev nD) : sProp 𝕄 :=
  iprop(∃ K, bigSep Finset.univ (record m K) ∗ (bigSep Finset.univ fun o => atPos ER (tcell (c, o)) 0 ∅ 0)
    ∗ bigSep Finset.univ fun y : Tok => tok (payAt (c, y)))

/-- How often cell `o` is paid. -/
def times : Option DIx → ℕ | none => 3 | some x => if x.1 = 1 ∨ x.1 = 3 then 1 else 0

/-- What device `c`'s body starts from, its buffers aside. -/
def start (c : Dev nD) : sProp 𝕄 :=
  iprop(dealt m c ∗ (bigSep Finset.univ fun o => cred (tallyAt (tcell (c, o)) () (times o * tamt (c, o)))) ∗ levAts L lv)

def Φ₀ (c : Dev nD) : sProp 𝕄 := iprop(start m c ∗ free c stM ∗ free c rcM)
def Φ₁ (c : Dev nD) : sProp 𝕄 :=
  iprop((free (F := F) c stM ∗ free c rcM) ∗ semVal (barCell c) 0 ∗ bigSep Finset.univ fun x => semVal (dCell c x) 0)

def dats (_ : Fin 1) (c : Dev nD) : Dat τ (Elt F) Unit ℕ UU ℕ cfg0 c where
  A w := m ((cfg0.win w).arr.view.loc (c : Thread nD τ))
  after w _ := match w with
    | ⟨0, _⟩ => aStg m c
    | ⟨1, _⟩ => bStg m c
    | ⟨2, _⟩ => result m
  Φ t := match t with
    | ⟨0, _⟩ => Φ₀ m c
    | ⟨_ + 1, _⟩ => Φ₁ c
  q _ := fullShare
  owed t := match t with
    | ⟨0, _⟩ => owed (debts c)
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body under the launch -/

theorem stage_free (c : Dev nD) (X : Vec F S512x512 .bf16) : stg (F := F) c cc0_stg2_0 X ⊢ free c oM :=
  (Entails.of_eq (owns_whole_eq c cc0_stg2_0 X).symm).trans (exists_intro (Φ := fun X => ownsF (F := F) c oM fullShare X) X)

theorem stage_result (c : Dev nD) : ownsF c oM fullShare (result m) ⊢ stg (F := F) c cc0_stg2_0 (result m) :=
  Entails.of_eq (owns_whole_eq c cc0_stg2_0 (result m))

/-- The duty that device `c` pays at the barrier cell of `sh c j`: the one of the number of steps back. -/
theorem tok_bar (c : Dev nD) (j j' : Fin 3) (e : us c j' = sh c j) : tok (payAt (c, .inl j')) = (dutyTok ER (barCell (sh c j)) 0 j' : sProp 𝕄) := by
  rw [← e]; rfl
theorem tok_own (c : Dev nD) (k : Fin 4) (hk : ¬ (k = 1 ∨ k = 3)) (h : Fin 2) (j : Fin 3) :
    tok (payAt (c, .inr (k, h, j))) = (dutyTok ER (dCell c (k, h, j)) 0 0 : sProp 𝕄) := by
  rw [payAt, if_neg hk]; rfl
theorem tok_far (c : Dev nD) (k : Fin 4) (hk : k = 1 ∨ k = 3) (h : Fin 2) (j : Fin 3) :
    tok (payAt (c, .inr (k, h, j))) = (dutyTok ER (dCell (sh c j) (k, h, j)) 0 0 : sProp 𝕄) := by
  rw [payAt, if_pos hk]; rfl
theorem cred_bar (c : Dev nD) : (cred (tallyAt (tcell (c, none)) () (times none * tamt (c, none))) : sProp 𝕄) = cred (tallyAt (barCell c) () 3) := rfl
theorem cred_far (c : Dev nD) (k : Fin 4) (hk : k = 1 ∨ k = 3) (h : Fin 2) (j : Fin 3) :
    (cred (tallyAt (tcell (c, some (k, h, j))) () (times (some (k, h, j)) * tamt (c, some (k, h, j)))) : sProp 𝕄) = cred (tallyAt (dCell c (k, h, j)) () N) := by
  rw [times, if_pos hk, Nat.one_mul]; rfl

/-- The launch's tokens by the transfers they pay for. -/
theorem fares_intro (c : Dev nD) (a b : Fin 4) (ha : ¬ (a = 1 ∨ a = 3)) (hb : b = 1 ∨ b = 3) :
    iprop(six (fun h j => tok (F := F) (payAt (c, .inr (a, h, j)))) ∗ six (fun h j => tok (F := F) (payAt (c, .inr (b, h, j))))
      ∗ six (fun h j => atPos ER (tcell (c, some (a, h, j))) 0 ∅ 0)) ⊢ six (fare c a b) := by
  rw [← six_sep, ← six_sep]
  refine six_mono fun h j => ?_
  rw [tok_own c a ha, tok_far c b hb]
  exact BI.Entails.refl _
theorem waiters_intro (c : Dev nD) (k : Fin 4) (hk : k = 1 ∨ k = 3) :
    iprop(six (fun h j => atPos ER (tcell (c, some (k, h, j))) 0 ∅ 0)
      ∗ six (fun h j => (cred (tallyAt (tcell (c, some (k, h, j))) () (times (some (k, h, j)) * tamt (c, some (k, h, j)))) : sProp 𝕄)))
      ⊢ six (fun h j => waiter c (k, h, j)) := by
  rw [← six_sep]
  refine six_mono fun h j => ?_
  rw [cred_far c k hk]
  exact BI.Entails.refl _

/-- What the launch deals device `c`, sorted into what its run starts with. -/
theorem runPre_intro (c : Dev nD) :
    iprop(Φ₀ m c ∗ owesA c (debts c) ∗ aHeld m c ∗ bHeld m c ∗ free c oM) ⊢ iprop(∃ K, runPre m K c) := by
  unfold Φ₀ start dealt
  rw [option_eq, option_eq]
  rw [cells_eq, cells_eq]
  iintro ⟨⟨⟨⟨%K, #HI, ⟨HatB, A0, A1, A2, A3⟩, Htok⟩, ⟨HcB, C0, C1, C2, C3⟩, #HL⟩, Hst, Hrc⟩, HO, HA, HB, Hout⟩
  iexists K
  ihave Htok := (Entails.of_eq (toks_eq fun y => tok (F := F) (payAt (c, y)))) $$ Htok
  icases Htok with ⟨⟨T0, T1, T2⟩, D0, D1, D2, D3⟩
  ihave Hst := (slots_split c stM) $$ Hst
  ihave Hrc := (slots_split c rcM) $$ Hrc
  ihave Hout := (chunks_split c) $$ Hout
  icases Hout with ⟨Hown, Hoth⟩
  unfold runPre
  isplitr
  · unfold records
    isplitr; · iexact HI
    iexact HL
  isplitl [HO]; · iexact HO
  isplitl [HatB HcB]
  · isplitl [HatB]; · iexact HatB
    iapply (Entails.of_eq (cred_bar (F := F) c)); iexact HcB
  isplitl [T0 T1 T2]
  · isplitl [T2]; · iapply (Entails.of_eq (tok_bar (F := F) c 0 2 (by revert c; decide))); iexact T2
    isplitl [T1]; · iapply (Entails.of_eq (tok_bar (F := F) c 1 1 (by revert c; decide))); iexact T1
    iapply (Entails.of_eq (tok_bar (F := F) c 2 0 (by revert c; decide))); iexact T0
  isplitl [D0 D1 A0]
  · iapply (fares_intro c 0 1 (by decide) (by decide))
    isplitl [D0]; · iexact D0
    isplitl [D1] <;> iassumption
  isplitl [D2 D3 A2]
  · iapply (fares_intro c 2 3 (by decide) (by decide))
    isplitl [D2]; · iexact D2
    isplitl [D3] <;> iassumption
  isplitl [A1 C1]
  · iapply (waiters_intro c 1 (by decide))
    isplitl [A1] <;> iassumption
  isplitl [A3 C3]
  · iapply (waiters_intro c 3 (by decide))
    isplitl [A3] <;> iassumption
  isplitl [HA HB]; · isplitl [HA] <;> iassumption
  isplitl [Hst]; · iexact Hst
  isplitl [Hrc]; · iexact Hrc
  isplitl [Hown]; · iexact Hown
  iexact Hoth

/-- What the run ends with, put together again: the finished result and the two buffers whole, every semaphore at zero. -/
theorem runPost_elim (c : Dev nD) :
    runPost m c ⊢ iprop(Φ₁ c ∗ owesA c [] ∗ aHeld m c ∗ bHeld m c ∗ ownsF c oM fullShare (result m)) := by
  unfold runPost settled
  rw [six_sep, six_sep, six_sep, six_sep]
  iintro ⟨HO, HzB, ⟨HA, HB⟩, ⟨Z0, P0⟩, ⟨Z1, P1⟩, ⟨Z2, P2⟩, ⟨Z3, P3⟩⟩
  ihave Hst := (show six (fun h j => dmaPay m c (0, h, j)) ⊢ free c stM from slots_join c stM (fun h j => piece m c h j)) $$ P0
  ihave Hrc := (show six (fun h j => dmaPay m c (1, h, j)) ⊢ free c rcM from slots_join c rcM (fun h j => piece m (us c j) h j)) $$ P1
  ihave Hown := (show six (fun h j => dmaPay m c (2, h, j))
      ⊢ iprop(ownsF c (outM 0 c) fullShare (chunk m c 0) ∗ ownsF c (outM 1 c) fullShare (chunk m c 1)) from by
    rw [shares c (outM 0 c), shares c (outM 1 c)]
    show iprop(dmaPay m c (2, 0, 0) ∗ dmaPay m c (2, 0, 1) ∗ dmaPay m c (2, 0, 2) ∗ dmaPay m c (2, 1, 0) ∗ dmaPay m c (2, 1, 1) ∗ dmaPay m c (2, 1, 2)) ⊢ _
    unfold dmaPay
    iintro ⟨H0, H1, H2, H3, H4, H5⟩
    isplitl [H0 H1 H2]
    · isplitl [H0]; · iexact H0
      isplitl [H1] <;> iassumption
    isplitl [H3]; · iexact H3
    isplitl [H4] <;> iassumption) $$ P2
  ihave Hres := (show iprop((ownsF c (outM 0 c) fullShare (chunk m c 0) ∗ ownsF c (outM 1 c) fullShare (chunk m c 1)) ∗ six (fun h j => dmaPay m c (3, h, j)))
      ⊢ ownsF c oM fullShare (result m) from chunks_join m c) $$ [Hown P3]
  · isplitl [Hown] <;> iassumption
  unfold Φ₁
  rw [cells_eq]
  isplitl [Hst Hrc HzB Z0 Z1 Z2 Z3]
  · isplitl [Hst Hrc]; · isplitl [Hst] <;> iassumption
    isplitl [HzB]; · iexact HzB
    isplitl [Z0]; · iexact Z0
    isplitl [Z1]; · iexact Z1
    isplitl [Z2] <;> iassumption
  isplitl [HO]; · iexact HO
  isplitl [HA]; · iexact HA
  isplitl [HB] <;> iassumption

/-- The launch's precondition of the body on device `c`, window by window, and its postcondition. -/
def bodyPre (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))
def bodyPost (c : Dev nD) : sProp 𝕄 :=
  iprop(Φ₁ c ∗ (dats m 0 c).owesAt () t₀.succ ∗ stg c cc0_stg0_0 (aStg m c) ∗ stg c cc0_stg1_0 (bStg m c) ∗ stg c cc0_stg2_0 (result m))

theorem before_a (c : Dev nD) (d) : (dats m 0 c).before (0 : Fin 3) t₀ d = aStg m c := by
  unfold Dat.before; rw [if_pos (fetch_0 t₀)]; rfl
theorem before_b (c : Dev nD) (d) : (dats m 0 c).before (1 : Fin 3) t₀ d = bStg m c := by
  unfold Dat.before; rw [if_pos (fetch_1 t₀)]; rfl

theorem owes_first (c : Dev nD) : (dats m 0 c).owesAt () t₀.castSucc ⊢ owesA c (debts c) := by
  show iprop(∃ W : Waits sig Unit, ⌜_⌝ ∗ owes (c : Thread nD τ) (owed (debts c)) W) ⊢ iprop(∃ W : Waits sig Unit, owes (c : Thread nD τ) (owed (debts c)) W)
  iintro ⟨%W, %hW, H⟩
  iexists W; iexact H
theorem owes_last (c : Dev nD) : owesA c [] ⊢ (dats m 0 c).owesAt () t₀.succ := by
  show iprop(∃ W : Waits sig Unit, owes (c : Thread nD τ) 0 W)
    ⊢ iprop(∃ W : Waits sig Unit, ⌜(↑W : Set (SemLoc sig × Unit)) ⊆ (dats m 0 c).bound () t₀.succ⌝ ∗ owes (c : Thread nD τ) 0 W)
  iintro ⟨%W, H⟩
  iexists W
  isplitr; · ipureintro; exact fun _ _ => Or.inl trivial
  iexact H

theorem pre_run (c : Dev nD) : bodyPre m c ⊢ iprop(∃ K, runPre m K c) := by
  unfold bodyPre
  simp only [before_a, before_b]
  iintro ⟨Hφ, HO, ⟨%d0, %f0, %e0, HA⟩, ⟨%d1, %f1, %e1, HB⟩, ⟨%d2, Hout⟩⟩
  subst e0; subst e1
  ihave Hout := (stage_free c _) $$ Hout
  iapply (runPre_intro m c)
  isplitl [Hφ]; · iexact Hφ
  isplitl [HO]; · iapply (owes_first m c); iexact HO
  isplitl [HA]; · unfold aHeld; iexact HA
  isplitl [HB]; · unfold bHeld; iexact HB
  iexact Hout

theorem held_a (c : Dev nD) : aHeld m c ⊢ stg c cc0_stg0_0 (aStg m c) := by
  unfold aHeld
  iintro H
  iexists (aStg m c); isplitr; · (ipureintro; rfl)
  iexact H
theorem held_b (c : Dev nD) : bHeld m c ⊢ stg c cc0_stg1_0 (bStg m c) := by
  unfold bHeld
  iintro H
  iexists (bStg m c); isplitr; · (ipureintro; rfl)
  iexact H

theorem run_post (c : Dev nD) : runPost m c ⊢ bodyPost m c := by
  iintro H
  ihave H := (runPost_elim m c) $$ H
  icases H with ⟨Hφ, HO, HA, HB, Hout⟩
  ihave Hout := (stage_result m c) $$ Hout
  unfold bodyPost
  isplitl [Hφ]; · iexact Hφ
  isplitl [HO]; · iapply (owes_last m c); iexact HO
  isplitl [HA]; · iapply (held_a m c); iexact HA
  isplitl [HB]; · iapply (held_b m c); iexact HB
  iexact Hout

set_option maxRecDepth 4000 in
/-- The launch's obligation on the body of device `c`. -/
theorem body_obligation (c : Dev nD) : BodyObligation (dats (F := F) m 0 c) (defs₀ (F := F)) 𝒱₀ () Set.univ := fun t => by
  rw [fin_N t, bigSep_W, bigSep_W]
  simp only [owns_whole_eq]
  show bodyPre m c ⊢ wp frame (wpE (defs₀ (F := F)) 𝒱₀ (c : Thread nD τ) none) Set.univ
    (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scratch4 cc0_scratch5) (fun _ => bodyPost m c)
  iintro H
  ihave H := (pre_run m c) $$ H
  icases H with ⟨%K, H⟩
  iapply (body_run m K c fun _ => bodyPost m c) $$ H
  iapply (run_post m c)

/-! ## The launch -/

theorem ownSemFacts : Pipeline.OwnSemFacts cfg0.spec osem := by decide +kernel

theorem share_eq (c : Dev nD) (w : Fin cfg0.W) : (dats m 0 c).share w = fullShare := by unfold Dat.share; split <;> rfl

def meshCells : Finset (GSem nD τ sig) := Finset.univ.map ⟨tcell, tcell_inj⟩
def meshToks : Finset (GSem nD τ sig × ℕ × Duty) := Finset.univ.map ⟨tokOf, tokOf_inj⟩
def u₀ : UU := (initOf (Pipeline.cells cfgs cellOf_inj) (Pipeline.launchToks cfgs cellOf_inj), initOf meshCells meshToks)

/-- What the launch first deals device `c`: the state of its own cells, its positions there, its own cells' tokens. -/
def G (c : Dev nD) : sProp 𝕄 :=
  iprop((bigSep Finset.univ fun o => roundState ER (rd m) (tcell (c, o)) 0)
    ∗ (bigSep Finset.univ fun o => iprop(atPos ER (tcell (c, o)) 0 ∅ 0 ∗ reached ER (tcell (c, o)) 0)) ∗ bigSep Finset.univ fun y : Tok => tok (F := F) (c, y))

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun o : Option DIx => Φ (tcell (c, o)) := by
    unfold meshCells; rw [bigSep_map, bigSep_univ_prod]; rfl
  have hT : bigSep meshToks (fun x => (dutyTok ER x.1 x.2.1 x.2.2 : sProp 𝕄)) = bigSep Finset.univ fun c : Dev nD => bigSep Finset.univ fun y : Tok => tok (c, y) := by
    unfold meshToks; rw [bigSep_map, bigSep_univ_prod]; rfl
  iintro HX
  imod (Rounds.fund ER (rd m) meshCells meshToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem unscoped_bar (c : Dev nD) : (unscopedSems0 c : sProp 𝕄) = semVal (barCell c) 0 := by
  unfold unscopedSems0; rw [bigSep_eq_bigSepL_of_eq [SemLoc.reg barS] (by decide) (by decide)]; rfl

/-- Device `c`'s semaphores and the state of its cells become the cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o => iprop(∃ κ : ℕ, cellInv ER (rd m) κ (tcell (c, o))))
          ∗ (bigSep Finset.univ fun o => iprop(atPos ER (tcell (c, o)) 0 ∅ 0 ∗ reached ER (tcell (c, o)) 0)) ∗ bigSep Finset.univ fun y : Tok => tok (F := F) (c, y)) := by
  unfold G
  iintro ⟨Hos, Hus, Hst, Hat, Htok⟩
  ihave Hv := (show iprop(unscopedSems0 c ∗ Pipeline.ownSems0 (Ix := Unit) (Name := ℕ) (U := UU) (Lvl := ℕ) (Val := Elt F) (τ := τ) osem c)
      ⊢ (bigSep Finset.univ fun o : Option DIx => semVal (tcell (c, o)) 0 : sProp 𝕄) from by
    rw [unscoped_bar, option_eq]; exact .rfl) $$ [Hos Hus]
  · isplitl [Hus] <;> iassumption
  imod (show iprop((bigSep Finset.univ fun o : Option DIx => semVal (tcell (c, o)) 0) ∗ bigSep Finset.univ fun o : Option DIx => roundState ER (rd m) (tcell (c, o)) 0)
      ⊢ (|={Set.univ}=> bigSep Finset.univ fun o => iprop(∃ κ : ℕ, cellInv ER (rd m) κ (tcell (c, o))) : sProp 𝕄) from by
        rw [← bigSep_sep']
        exact (bigSep_mono fun o _ => (Rounds.body_intro ER (rd m) (tcell (c, o))).trans inv_alloc).trans (bigSep_fupd _ _)) $$ [Hv Hst] with Hinv
  · isplitl [Hv] <;> iassumption
  imodintro
  isplitl [Hinv]; · iexact Hinv
  isplitl [Hat]; · iexact Hat
  iexact Htok

/-- All devices' shares together become what each is dealt: the records are everyone's, the tokens go to who pays with them. -/
theorem regroup :
    (bigSep Finset.univ fun c : Dev nD => iprop((bigSep Finset.univ fun o => iprop(∃ κ : ℕ, cellInv ER (rd m) κ (tcell (c, o))))
          ∗ (bigSep Finset.univ fun o => iprop(atPos ER (tcell (c, o)) 0 ∅ 0 ∗ reached ER (tcell (c, o)) 0)) ∗ bigSep Finset.univ fun y : Tok => tok (F := F) (c, y)) : sProp 𝕄)
      ⊢ bigSep Finset.univ (dealt m) := by
  rw [bigSep_sep', bigSep_sep', ← bigSep_univ_prod (fun t : Tgt => iprop(∃ κ : ℕ, cellInv ER (rd m) κ (tcell t))),
    bigSep_congr (s := Finset.univ) (fun (c : Dev nD) _ => bigSep_sep' Finset.univ (fun o : Option DIx => (atPos ER (tcell (c, o)) 0 ∅ 0 : sProp 𝕄)) (fun o => reached ER (tcell (c, o)) 0)),
    bigSep_sep', ← bigSep_univ_prod (fun t : Tgt => (reached ER (tcell t) 0 : sProp 𝕄)), toks_dealt]
  iintro ⟨HI, ⟨Hat, #HR⟩, Htok⟩
  ihave HK := (BI.bigSep_exists_pi Finset.univ (fun (t : Tgt) (κ : ℕ) => (cellInv ER (rd m) κ (tcell t) : sProp 𝕄))) $$ HI
  icases HK with ⟨%K, #HI⟩
  ihave #HKR := (show iprop((bigSep Finset.univ fun t : Tgt => cellInv ER (rd m) (K t) (tcell t)) ∗ bigSep Finset.univ fun t : Tgt => reached ER (tcell t) 0)
      ⊢ (bigSep Finset.univ (record m K) : sProp 𝕄) from by rw [← bigSep_sep']; exact .rfl) $$ []
  · isplitl <;> iassumption
  ihave Hall := (BI.bigSep_of_persistent (Finset.univ : Finset (Dev nD)) (bigSep Finset.univ (record m K))) $$ HKR
  iapply (show iprop((bigSep Finset.univ fun _ : Dev nD => bigSep Finset.univ (record m K))
        ∗ (bigSep Finset.univ fun c : Dev nD => bigSep Finset.univ fun o => atPos ER (tcell (c, o)) 0 ∅ 0)
        ∗ bigSep Finset.univ fun c : Dev nD => bigSep Finset.univ fun y : Tok => tok (payAt (c, y))) ⊢ bigSep Finset.univ (dealt m) from by
    rw [← bigSep_sep', ← bigSep_sep']
    exact bigSep_mono fun c _ => exists_intro (Φ := fun K : Tgt → ℕ => iprop(bigSep Finset.univ (record m K) ∗ (bigSep Finset.univ fun o => atPos ER (tcell (c, o)) 0 ∅ 0)
      ∗ bigSep Finset.univ fun y : Tok => tok (payAt (c, y)))) K)
  isplitl [Hall]; · iexact Hall
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (dealt m) :=
  ((bigSep_mono fun c _ => core_alloc m c).trans (bigSep_fupd _ _)).trans (BI.fupd_mono (regroup m))

/-! ## The credit each device is launched with -/

/-- A cell of device `c` is owed its amount by the others as often as it is paid. -/
theorem debts_count (c : Dev nD) (o : Option DIx) : (∑ d : Dev nD, (debts d).count (c, o)) = times o := by
  revert c o; decide +kernel

theorem launch_cell (c : Dev nD) (o : Option DIx) :
    tallyOn (tcell (c, o)) (launchCredit (Pipeline.owing fun d => owed (debts d)) 0 (tcell (c, o)))
      = (tallyAt (tcell (c, o)) () (times o * tamt (c, o)) : CellTallies nD τ sig Unit) := by
  unfold tallyAt; refine congrArg _ (Finsupp.ext fun u => ?_); cases u
  rw [Pipeline.launchCredit_owing, Finsupp.single_eq_same, Finset.sum_congr rfl fun d _ => owed_count (debts d) (c, o), ← Finset.sum_mul, debts_count]

omit [FloatOps F] in
theorem creds (c : Dev nD) :
    (Pipeline.launchCred (fun d => owed (debts d)) c : sProp 𝕄) ⊢ bigSep Finset.univ fun o => cred (tallyAt (tcell (c, o)) () (times o * tamt (c, o))) := by
  have hinj : Function.Injective fun o : Option DIx => (tcell (c, o)).2 := fun o o' h => by
    have h' : tcell (c, o) = tcell (c, o') := by
      refine Prod.ext ?_ h
      cases o <;> cases o' <;> rfl
    exact (Prod.mk.inj (tcell_inj h')).2
  unfold Pipeline.launchCred
  refine (bigSep_subset (Finset.subset_univ (Finset.univ.map ⟨_, hinj⟩))).trans ?_
  rw [bigSep_map]
  refine bigSep_mono fun o _ => ?_
  rw [← launch_cell]
  cases o <;> exact BI.Entails.refl _

/-! ## The run -/

theorem start_intro (c : Dev nD) :
    iprop(Pipeline.unscopedRestP Pipeline.Prefetch.none cfg0.spec c (fun b => m ((c : Thread nD τ).loc b)) ∗ levAts L lv
        ∗ Pipeline.launchCred (fun d => owed (debts d)) c ∗ prngReg c (ρ c) ∗ dealt m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

omit [FloatOps F] in
/-- A whole buffer at some contents, said of its location. -/
theorem whole_eq (c : Dev nD) (b : Ref sig .tc) :
    (iprop(∃ X : b.ty.Contents (Elt F), owns (Ix := Unit) (Name := ℕ) (U := UU) (Lvl := ℕ) (c : Thread nD τ) (Memref.whole b) fullShare X) : sProp 𝕄)
      = iprop(∃ f : Buf (Elt F) ((c : Thread nD τ).loc b), ((c : Thread nD τ).loc b) ↦{fullShare} f) := by
  simp only [owns_whole_eq]
  refine Entails.antisymm (show iprop(∃ X f, ⌜f = X⌝ ∗ (((c : Thread nD τ).loc b) ↦{fullShare} f)) ⊢ iprop(∃ f, ((c : Thread nD τ).loc b) ↦{fullShare} f) from ?_)
    (show iprop(∃ f, ((c : Thread nD τ).loc b) ↦{fullShare} f) ⊢ iprop(∃ X f, ⌜f = X⌝ ∗ (((c : Thread nD τ).loc b) ↦{fullShare} f)) from ?_)
  · iintro ⟨%X, %f, %e, H⟩
    iexists f; iexact H
  · iintro ⟨%f, H⟩
    iexists f; iexists f
    isplitr; · (ipureintro; rfl)
    iexact H
omit [FloatOps F] in
theorem free_whole₀ (c : Dev nD) : free (F := F) c stM = iprop(∃ f : Buf (Elt F) ((c : Thread nD τ).loc cc0_scratch0), ((c : Thread nD τ).loc cc0_scratch0) ↦{fullShare} f) :=
  whole_eq c cc0_scratch0
omit [FloatOps F] in
theorem free_whole₁ (c : Dev nD) : free (F := F) c rcM = iprop(∃ f : Buf (Elt F) ((c : Thread nD τ).loc cc0_scratch1), ((c : Thread nD τ).loc cc0_scratch1) ↦{fullShare} f) :=
  whole_eq c cc0_scratch1

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  rw [free_whole₀, free_whole₁]
  iintro ⟨Hs, -, H0, H1⟩
  isplitl [Hs]; · iexact Hs
  isplitl [H0] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscoped_bar,
    show (Pipeline.ownSems0 osem c : sProp 𝕄) = bigSep Finset.univ fun x => semVal (dCell c x) 0 from rfl]
  unfold Φ₁
  rw [free_whole₀, free_whole₁]
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ (debts c) (fun t ht => by
        rw [lv_tcell]
        refine lt_of_eq_of_lt ?_ (debts_above c t ht)
        fin_cases w <;> fin_cases s <;> rfl)
    · exact mayWait c _ [] (fun t ht => absurd ht List.not_mem_nil)

/-- Window `w`'s array on device `c` after the run. -/
def finalA (c : Dev nD) (w : Fin cfg0.W) : Buf (Elt F) ((cfg0.win w).arr.view.loc (c : Thread nD τ)) := (dats m 0 c).arrAt w cfg0.N

set_option maxRecDepth 8000 in
/-- From any memory with all counters at zero, every weakly fair run of the four devices ends without fault, each
    device's three arrays at the contents `finalA` and every counter at zero. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owed (debts d)) (howed₀ := fun _ => rfl) (howedN := fun _ => rfl)
    (L := L) (lv := lv) (hL := L_of_ne) (hwaits := waits m)
    (G := G m) (G' := dealt m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Mesh

end
-- ==== Proof.KernelIdeal.Final.lean ====
/-
What the arrays hold after a run: the two arguments as they were, the result at the eight finished half chunks.
-/
module

public import proofs.«01_k».proof.Proof.KernelIdeal.Run
public import Idealize.ShloMosaic.Lib.Pipeline.ValueKit

@[expose] public section

noncomputable section

namespace Cert.KernelIdeal.Mesh

open Cert.KernelIdeal Cert.KernelIdeal.Gen

open Idealize.ShloMosaic Idealize.ShloMosaic.TcCoe
open Idealize.SL.Sem

variable {F : FTy → Type} [FloatOps F]
variable (m : (ℓ : Loc nD τ sig) → Buf (Elt F) ℓ)
variable (ρ : Dev nD → PrngReg)

/-- The two arguments are read only: each ends as it was. -/
theorem final_0 (c : Dev nD) : finalA m c 0 = m ((c : Thread nD τ).loc main_arg0) := (dats m 0 c).arrAt_in 0 rfl _
theorem final_1 (c : Dev nD) : finalA m c 1 = m ((c : Thread nD τ).loc main_arg1) := (dats m 0 c).arrAt_in 1 rfl _

/-- The result array ends at `result`: its window is the whole array, copied out once. -/
theorem final_2 (c : Dev nD) : finalA m c 2 = result m :=
  (dats m 0 c).arrAt_eq_of_after_last 2 t₀ (by decide +kernel) (result m) (fun _ => rfl)

/-- The run with its three arrays named. -/
theorem run_arrays : θ_run defs (onTc (τ := τ) (main (F := F))) ⟨m, fun _ => 0, ρ⟩
    (fun r => (∀ c : Dev nD, r.2.mem ((c : Thread nD τ).loc main_v1) = result m
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun r h => ⟨fun c => ⟨(h.1 c 2).trans (final_2 m c), (h.1 c 0).trans (final_0 m c),
    (h.1 c 1).trans (final_1 m c)⟩, h.2⟩) (run_main m ρ)

end Cert.KernelIdeal.Mesh

end
-- ==== Proof.Value.lean ====
/-
What the result is over the extended reals: entry by entry, the product of the two whole arrays the devices' arguments are
blocks of.
-/
module

public import proofs.«01_k».proof.Proof.KernelIdeal.Final
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.KernelIdeal.Mesh

open Cert.KernelIdeal Cert.KernelIdeal.Gen

open Idealize.ShloMosaic hiding ix2
open Idealize.ShloMosaic.TcCoe Idealize.ShloMosaic.ValueIdx
open scoped BigOperators

variable (m : (ℓ : Loc nD τ sig) → Buf (Elt Ideal) ℓ)

/-- Device `e`'s two arguments. -/
def argA (e : Dev nD) : FVec Ideal S512x256 .bf16 := m ((e : Thread nD τ).loc main_arg0)
def argB (e : Dev nD) : FVec Ideal S256x512 .bf16 := m ((e : Thread nD τ).loc main_arg1)

/-- Row `r` of row chunk `d`, and column `l` of column half `h`, of a device's result. -/
def row (d : Dev nD) (r : Fin 128) : Fin 512 := ⟨128 * d.val + r.val, by have : d.val < 4 := d.isLt; omega⟩
def col (h : Fin 2) (l : Fin 256) : Fin 512 := ⟨256 * h.val + l.val, by omega⟩

/-- Device `e`'s share of one entry: the products over its 256 of the 1024 contracted places. -/
def share (e d : Dev nD) (h : Fin 2) (r : Fin 128) (l : Fin 256) : Elt Ideal .f32 :=
  ∑ k : Fin 256, argA m e (ix2 (row d r) k) * argB m e (ix2 k (col h l))

/-- A staged argument is the argument: its block is the whole array. -/
theorem aStg_eq (e : Dev nD) : aStg m e = argA m e := by
  funext i
  refine congrArg (argA m e) (funext fun a => Fin.ext ?_)
  exact Pipeline.Window.rect_emb_val_of_index_zero win0_0 (0 : Fin 1) a rfl i
theorem bStg_eq (e : Dev nD) : bStg m e = argB m e := by
  funext i
  refine congrArg (argB m e) (funext fun a => Fin.ext ?_)
  exact Pipeline.Window.rect_emb_val_of_index_zero win0_1 (0 : Fin 1) a rfl i

theorem off1_eq (e : Dev nD) (j : Fin 3) : k0_off1 e (BitVec.ofNat 32 (1 + j.val)) = ![128 * (sh e j).val, 0] := by
  revert e j; decide +kernel

/-- The rows a device loads for one piece are those of the chunk that piece belongs to, -/
theorem aPiece_at (e : Dev nD) (j : Fin 3) (r : Fin 128) (k : Fin 256) :
    aPiece m e j (ix2 r k) = argA m e (ix2 (row (sh e j) r) k) := by
  unfold aPiece
  rw [aStg_eq]
  refine congrArg (argA m e) (funext fun a => Fin.ext ?_)
  show k0_off1 e (BitVec.ofNat 32 (1 + j.val)) a + 1 * (ix2 r k a).val = (ix2 (row (sh e j) r) k a).val
  rw [off1_eq]
  fin_cases a
  · show 128 * (sh e j).val + 1 * r.val = 128 * (sh e j).val + r.val; omega
  · show 0 + 1 * k.val = k.val; omega

/-- and those it loads for its own product are its own chunk's. -/
theorem aOwn_at (d : Dev nD) (r : Fin 128) (k : Fin 256) : aOwn m d (ix2 r k) = argA m d (ix2 (row d r) k) := by
  unfold aOwn
  rw [aStg_eq]
  refine congrArg (argA m d) (funext fun a => Fin.ext ?_)
  show k0_off2 d a + 1 * (ix2 r k a).val = (ix2 (row d r) k a).val
  rw [k0_off2_eq]
  fin_cases a
  · show 128 * d.val + 1 * r.val = 128 * d.val + r.val; omega
  · show 0 + 1 * k.val = k.val; omega

/-- A piece's product, read at an entry. -/
theorem half_at (x : FVec Ideal S128x256 .bf16) (y : FVec Ideal S256x256 .bf16) (r : Fin 128) (l : Fin 256) :
    matmul dot_S128x256_S256x256_S128x256_1_0_0_1_n_n none x y (constant S128x256 .f32 0x00000000#32) (ix2 r l)
      = ∑ k : Fin 256, x (ix2 r k) * y (ix2 k l) := by
  refine (Ideal.matmul_plain_apply (M := 128) (K := 256) (N := 256) none x y _ r l).trans ?_
  rw [ValueIdx.constant_apply, Ideal.ofBits_zero_f32, zero_add]

/-- A device's own product, read at an entry. -/
theorem full_at (x : FVec Ideal S128x256 .bf16) (y : FVec Ideal S256x512 .bf16) (r : Fin 128) (c : Fin 512) :
    matmul dot_S128x256_S256x512_S128x512_1_0_0_1_n_n none x y (constant S128x512 .f32 0x00000000#32) (ix2 r c)
      = ∑ k : Fin 256, x (ix2 r k) * y (ix2 k c) := by
  refine (Ideal.matmul_plain_apply (M := 128) (K := 256) (N := 512) none x y _ r c).trans ?_
  rw [ValueIdx.constant_apply, Ideal.ofBits_zero_f32, zero_add]

/-- The left and the right half of a matrix's columns, read at an entry. -/
theorem left_at {n : ℕ} {φ : FTy} (x : FVec Ideal ⟨2, ![n, 512]⟩ φ) (hs : Shape.Slices (⟨2, ![n, 512]⟩ : Shape) ![0, 0] ⟨2, ![n, 256]⟩)
    (r : Fin n) (l : Fin 256) : extractStridedSlice ⟨2, ![n, 256]⟩ ![0, 0] x hs (ix2 r l) = x (ix2 r (col 0 l)) :=
  extractStridedSlice_apply _ x hs _ _ fun a => by
    fin_cases a
    · show r.val = 0 + r.val; omega
    · show 256 * 0 + l.val = 0 + l.val; omega
theorem right_at {n : ℕ} {φ : FTy} (x : FVec Ideal ⟨2, ![n, 512]⟩ φ) (hs : Shape.Slices (⟨2, ![n, 512]⟩ : Shape) ![0, 256] ⟨2, ![n, 256]⟩)
    (r : Fin n) (l : Fin 256) : extractStridedSlice ⟨2, ![n, 256]⟩ ![0, 256] x hs (ix2 r l) = x (ix2 r (col 1 l)) :=
  extractStridedSlice_apply _ x hs _ _ fun a => by
    fin_cases a
    · show r.val = 0 + r.val; omega
    · show 256 * 1 + l.val = 256 + l.val; omega

/-- One piece, read at an entry: its device's share. -/
theorem piece_at (e : Dev nD) (h : Fin 2) (j : Fin 3) (r : Fin 128) (l : Fin 256) :
    shapeCast S128x256 (piece m e h j) shapeCasts_S1x1x128x256_S128x256 (ix2 r l) = share m e (sh e j) h r l := by
  unfold share
  match h with
  | 0 =>
    show shapeCast S128x256 (k0_pay3 (k0_pay1 (bStg m e)) (aPiece m e j)) _ (ix2 r l) = _
    unfold k0_pay3 k0_pay1
    dsimp only
    rw [shapeCast_shapeCast, shapeCast_self, shapeCast_self]
    refine (half_at _ _ r l).trans (Finset.sum_congr rfl fun k _ => ?_)
    rw [aPiece_at, bStg_eq, left_at]
  | 1 =>
    show shapeCast S128x256 (k0_pay8 (k0_pay1 (bStg m e)) (aPiece m e j)) _ (ix2 r l) = _
    unfold k0_pay8 k0_pay1
    dsimp only
    rw [shapeCast_shapeCast, shapeCast_self, shapeCast_self]
    refine (half_at _ _ r l).trans (Finset.sum_congr rfl fun k _ => ?_)
    rw [aPiece_at, bStg_eq, right_at]

/-- A device's own product, read at an entry of either half: its own share. -/
theorem own_at (d : Dev nD) (r : Fin 128) (c : Fin 512) :
    k0_pay12 (k0_pay1 (bStg m d)) (aOwn m d) (ix2 r c) = ∑ k : Fin 256, argA m d (ix2 (row d r) k) * argB m d (ix2 k c) := by
  unfold k0_pay12 k0_pay1
  dsimp only
  rw [shapeCast_self, shapeCast_self]
  exact (full_at _ _ r c).trans (Finset.sum_congr rfl fun k _ => by rw [aOwn_at, bStg_eq])

/-- The four devices are a device and the three whose pieces it receives. -/
theorem sum_devs {M : Type} [AddCommMonoid M] (f : Dev nD → M) (d : Dev nD) :
    f d + f (us d 0) + f (us d 1) + f (us d 2) = ∑ e : Dev nD, f e := by
  rw [show (∑ e : Dev nD, f e) = f 0 + f 1 + f 2 + f 3 from Fin.sum_univ_four f]
  fin_cases d
  · show f 0 + f 3 + f 2 + f 1 = _
    ac_rfl
  · show f 1 + f 0 + f 3 + f 2 = _
    ac_rfl
  · show f 2 + f 1 + f 0 + f 3 = _
    ac_rfl
  · show f 3 + f 2 + f 1 + f 0 = _
    ac_rfl

/-- One finished half chunk, read at an entry: the four devices' shares added. -/
theorem chunk_at (d : Dev nD) (h : Fin 2) (r : Fin 128) (l : Fin 256) :
    chunk m d h (ix2 r l) = ∑ e : Dev nD, share m e d h r l := by
  rw [← sum_devs (fun e => share m e d h r l) d]
  have p (j : Fin 3) : shapeCast S128x256 (piece m (us d j) h j) shapeCasts_S1x1x128x256_S128x256 (ix2 r l) = share m (us d j) d h r l :=
    (piece_at m (us d j) h j r l).trans (by rw [sh_us])
  rw [← p 0, ← p 1, ← p 2, show share m d d h r l = _ from (own_at m d r (col h l)).symm]
  match h with
  | 0 =>
    rw [← left_at (n := 128) (k0_pay12 (k0_pay1 (bStg m d)) (aOwn m d)) slices_S128x512_o0_0_S128x256 r l]
    rfl
  | 1 =>
    rw [← right_at (n := 128) (k0_pay12 (k0_pay1 (bStg m d)) (aOwn m d)) slices_S128x512_o0_256_S128x256 r l]
    rfl

/-- Every entry of a result lies in a half of a row chunk. -/
theorem entry_eq (i : S512x512.Idx) : ∃ (h : Fin 2) (d : Dev nD) (r : Fin 128) (l : Fin 256), i = ix2 (row d r) (col h l) := by
  have h0 : (i 0).val < 512 := (i 0).isLt
  have h1 : (i 1).val < 512 := (i 1).isLt
  refine ⟨⟨(i 1).val / 256, by omega⟩, ⟨(i 0).val / 128, by show _ < 4; omega⟩, ⟨(i 0).val % 128, by omega⟩, ⟨(i 1).val % 256, by omega⟩, ?_⟩
  funext a
  apply Fin.ext
  fin_cases a
  · show (i 0).val = 128 * ((i 0).val / 128) + (i 0).val % 128; omega
  · show (i 1).val = 256 * ((i 1).val / 256) + (i 1).val % 256; omega

theorem entry_at (h : Fin 2) (d : Dev nD) (r : Fin 128) (l : Fin 256) : (outR h d).emb (ix2 r l) = ix2 (row d r) (col h l) := by
  funext a
  apply Fin.ext
  show outOff h d a + 1 * (ix2 r l a).val = (ix2 (row d r) (col h l) a).val
  rw [outOff_eq]
  fin_cases a
  · show 128 * d.val + 1 * r.val = 128 * d.val + r.val; omega
  · show 256 * h.val + 1 * l.val = 256 * h.val + l.val; omega

/-- Place `k` of device `e`'s 256 among the 1024 contracted ones. -/
def place (e : Dev nD) (k : Fin 256) : Fin 1024 := ⟨256 * e.val + k.val, by have : e.val < 4 := e.isLt; omega⟩

/-- A sum over the 1024 contracted places, device by device. -/
theorem sum_places {M : Type} [AddCommMonoid M] (f : Fin 1024 → M) : ∑ e : Dev nD, ∑ k : Fin 256, f (place e k) = ∑ c : Fin 1024, f c := by
  refine Eq.trans ?_ (Equiv.sum_comp (finProdFinEquiv (m := 4) (n := 256)) f)
  rw [Fintype.sum_prod_type]
  exact Finset.sum_congr rfl fun e _ => Finset.sum_congr rfl fun k _ => congrArg f (Fin.ext (Nat.add_comm _ _))

/-- The result is the product of the two whole arrays, when each device's arguments are its blocks of them: of the first
    array's columns, of the second's rows. -/
theorem result_product (X : FVec Ideal ⟨2, ![512, 1024]⟩ .bf16) (Y : FVec Ideal ⟨2, ![1024, 512]⟩ .bf16)
    (hX : Layout.Tiles ⟨2, ![512, 256]⟩ ⟨2, ![512, 1024]⟩ 1 4) (hY : Layout.Tiles ⟨2, ![256, 512]⟩ ⟨2, ![1024, 512]⟩ 0 4)
    (hA : ∀ e : Dev nD, argA m e = Layout.block ⟨2, ![512, 256]⟩ ⟨2, ![512, 1024]⟩ 1 4 e X hX)
    (hB : ∀ e : Dev nD, argB m e = Layout.block ⟨2, ![256, 512]⟩ ⟨2, ![1024, 512]⟩ 0 4 e Y hY) :
    result m = Host.dotGeneral (DotDims.plain 512 1024 512) none X Y := by
  funext i
  obtain ⟨h, d, r, l, rfl⟩ := entry_eq i
  rw [← entry_at, result_at, chunk_at, entry_at]
  refine Eq.trans ?_ ((sum_places fun c => X (ix2 (row d r) c) * Y (ix2 c (col h l))).trans
    (StackMember.dotGeneral_plain_apply (m := 512) (k := 1024) (n := 512) none X Y (row d r) (col h l)).symm)
  refine Finset.sum_congr rfl fun e _ => Finset.sum_congr rfl fun k _ => ?_
  rw [hA, hB, Layout.block_apply, Layout.block_apply]
  have eA : hX.idx e (ix2 (row d r) k) = ix2 (row d r) (place e k) := by
    funext a; apply Fin.ext
    fin_cases a
    · exact (Layout.idx_cols_val hX e (ix2 (row d r) k)).1
    · refine (Layout.idx_cols_val hX e (ix2 (row d r) k)).2.trans ?_
      show e.val * 256 + k.val = 256 * e.val + k.val; omega
  have eB : hY.idx e (ix2 k (col h l)) = ix2 (place e k) (col h l) := by
    funext a; apply Fin.ext
    fin_cases a
    · refine (Layout.idx_rows_val hY e (ix2 k (col h l))).1.trans ?_
      show e.val * 256 + k.val = 256 * e.val + k.val; omega
    · exact (Layout.idx_rows_val hY e (ix2 k (col h l))).2
  rw [eA, eB]

end Cert.KernelIdeal.Mesh

end
-- ==== Proof.lean ====
/-
The claims of this certificate, proved. The three frames are the runs with the result dropped; the value claim is the
idealized kernel's run and the reference's, both ending at the product of the two whole arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Final
public import proofs.«01_k».proof.Proof.KernelIdeal.Final
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as printed runs without fault, keeps its arguments and ends with every counter at zero. -/
theorem frame_kernel : Cert.quiescent_Kernel := fun m ρ _ =>
  (θ_run Cert.Kernel.defs _ _).mono (fun _ h => ⟨fun c => (h.1 c).2, h.2⟩) (Cert.Kernel.Mesh.run_arrays (F := Bits) m ρ)

/-- So does the idealized kernel, -/
theorem frame_kernelIdeal : Cert.quiescent_KernelIdeal := fun m ρ _ =>
  (θ_run Cert.KernelIdeal.defs _ _).mono (fun _ h => ⟨fun c => (h.1 c).2, h.2⟩) (Cert.KernelIdeal.Mesh.run_arrays (F := Ideal) m ρ)

/-- and the idealized reference, a straight-line program that has no counters at all. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, with each device's arguments its blocks of the reference's, every device's result and the
    reference's are the same array: the product of the two whole arguments. -/
theorem value : Cert.algebraic_KernelIdeal_ReferenceIdeal := by
  intro m ρ m' ρ' _ hblock
  let X := m' (((0 : Dev Cert.ReferenceIdeal.nD).tc : Thread _ Cert.ReferenceIdeal.τ).loc Cert.ReferenceIdeal.main_arg0)
  let Y := m' (((0 : Dev Cert.ReferenceIdeal.nD).tc : Thread _ Cert.ReferenceIdeal.τ).loc Cert.ReferenceIdeal.main_arg1)
  refine ⟨Host.dotGeneral (F := Ideal) (φ₁ := .bf16) (φ₂ := .bf16) (DotDims.plain 512 1024 512) none X Y, ?_, ?_⟩
  · exact (θ_run Cert.KernelIdeal.defs _ _).mono
      (fun _ h c => ⟨(h.1 c).1.trans (Cert.KernelIdeal.Mesh.result_product m X Y _ _ (fun e => (hblock e).1) (fun e => (hblock e).2)), (h.1 c).2⟩)
      (Cert.KernelIdeal.Mesh.run_arrays (F := Ideal) m ρ)
  · exact (θ_run Cert.ReferenceIdeal.defs _ _).mono (fun _ h => h 0) (Cert.ReferenceIdeal.Value.run (F := Ideal) m' ρ')

/-- The claims together, under the facts the printed programs state. -/
theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
